-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "folded_thr" .f32 0x3E9EE584#32 ((7549747 / 24326963 : ℝ) : EReal)
  ∧ IdealRules.named_const.Statement Cert.KernelIdeal.κ "big" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x5000x4 : Shape := ⟨3, ![8, 5000, 4]⟩
abbrev S8x4x5000 : Shape := ⟨3, ![8, 4, 5000]⟩
abbrev S_ : Shape := ⟨0, ![]⟩
abbrev S32x5000 : Shape := ⟨2, ![32, 5000]⟩
abbrev S32x5000x1 : Shape := ⟨3, ![32, 5000, 1]⟩
abbrev S1 : Shape := ⟨1, ![1]⟩
abbrev S1x1x1 : Shape := ⟨3, ![1, 1, 1]⟩
abbrev S8x1x5000x4 : Shape := ⟨4, ![8, 1, 5000, 4]⟩
abbrev S8x4x5000x4 : Shape := ⟨4, ![8, 4, 5000, 4]⟩
abbrev S32x5000x4 : Shape := ⟨3, ![32, 5000, 4]⟩
abbrev S32x5120 : Shape := ⟨2, ![32, 5120]⟩
abbrev S32x128x128 : Shape := ⟨3, ![32, 128, 128]⟩
abbrev S128x128 : Shape := ⟨2, ![128, 128]⟩
abbrev S1x128x128 : Shape := ⟨3, ![1, 128, 128]⟩
abbrev S32x128 : Shape := ⟨2, ![32, 128]⟩
abbrev S32x128x1 : Shape := ⟨3, ![32, 128, 1]⟩
abbrev S32x1x128 : Shape := ⟨3, ![32, 1, 128]⟩
abbrev S32x1 : Shape := ⟨2, ![32, 1]⟩

abbrev nBuf : Space → Nat
  | .hbm => 132
  | .vmem => 8
  | .smem => 0
  | _ => 0

abbrev hbmTy0_0 (i : Nat) : BufTy := match i % 128 with
  | 0 => ⟨S8x5000x4, .f32⟩
  | 1 => ⟨S8x4x5000, .f32⟩
  | 2 => ⟨S_, .f32⟩
  | 3 => ⟨S8x4x5000, .f32⟩
  | 4 => ⟨S8x4x5000, .i1⟩
  | 5 => ⟨S_, .f32⟩
  | 6 => ⟨S_, .f32⟩
  | 7 => ⟨S8x4x5000, .f32⟩
  | 8 => ⟨S8x4x5000, .f32⟩
  | 9 => ⟨S32x5000, .f32⟩
  | 10 => ⟨S32x5000, .f32⟩
  | 11 => ⟨S32x5000, .i32⟩
  | 12 => ⟨S32x5000, .f32⟩
  | 13 => ⟨S32x5000, .i32⟩
  | 14 => ⟨S_, .i32⟩
  | 15 => ⟨S32x5000, .i32⟩
  | 16 => ⟨S32x5000, .i1⟩
  | 17 => ⟨S_, .i32⟩
  | 18 => ⟨S32x5000, .i32⟩
  | 19 => ⟨S32x5000, .i32⟩
  | 20 => ⟨S32x5000, .i32⟩
  | 21 => ⟨S32x5000x1, .i32⟩
  | 22 => ⟨S1, .i32⟩
  | 23 => ⟨S_, .i32⟩
  | 24 => ⟨S32x5000x1, .i32⟩
  | 25 => ⟨S32x5000x1, .i1⟩
  | 26 => ⟨S1x1x1, .i32⟩
  | 27 => ⟨S32x5000x1, .i32⟩
  | 28 => ⟨S32x5000x1, .i1⟩
  | 29 => ⟨S32x5000x1, .i1⟩
  | 30 => ⟨S_, .i1⟩
  | 31 => ⟨S32x5000, .i1⟩
  | 32 => ⟨S32x5000, .f32⟩
  | 33 => ⟨S_, .f32⟩
  | 34 => ⟨S32x5000, .f32⟩
  | 35 => ⟨S32x5000, .f32⟩
  | 36 => ⟨S8x1x5000x4, .f32⟩
  | 37 => ⟨S8x4x5000x4, .f32⟩
  | 38 => ⟨S32x5000x4, .f32⟩
  | 39 => ⟨S32x5000x1, .i32⟩
  | 40 => ⟨S_, .i32⟩
  | 41 => ⟨S32x5000x1, .i32⟩
  | 42 => ⟨S32x5000x1, .i1⟩
  | 43 => ⟨S_, .i32⟩
  | 44 => ⟨S32x5000x1, .i32⟩
  | 45 => ⟨S32x5000x1, .i32⟩
  | 46 => ⟨S32x5000x1, .i32⟩
  | 47 => ⟨S1, .i32⟩
  | 48 => ⟨S_, .i32⟩
  | 49 => ⟨S32x5000x1, .i32⟩
  | 50 => ⟨S32x5000x1, .i1⟩
  | 51 => ⟨S1x1x1, .i32⟩
  | 52 => ⟨S32x5000x1, .i32⟩
  | 53 => ⟨S32x5000x1, .i1⟩
  | 54 => ⟨S32x5000x1, .i1⟩
  | 55 => ⟨S_, .i1⟩
  | 56 => ⟨S32x5000, .i1⟩
  | 57 => ⟨S32x5000x4, .f32⟩
  | 58 => ⟨S32x5000x4, .i1⟩
  | 59 => ⟨S_, .f32⟩
  | 60 => ⟨S32x5000x4, .f32⟩
  | 61 => ⟨S32x5000x4, .f32⟩
  | 62 => ⟨S32x5000x1, .f32⟩
  | 63 => ⟨S32x5000, .f32⟩
  | 64 => ⟨S32x5000x1, .f32⟩
  | 65 => ⟨S32x5000, .f32⟩
  | 66 => ⟨S32x5000x1, .f32⟩
  | 67 => ⟨S32x5000, .f32⟩
  | 68 => ⟨S32x5000x1, .f32⟩
  | 69 => ⟨S32x5000, .f32⟩
  | 70 => ⟨S32x5000, .f32⟩
  | 71 => ⟨S_, .f32⟩
  | 72 => ⟨S32x5000, .f32⟩
  | 73 => ⟨S32x5000, .f32⟩
  | 74 => ⟨S32x5000, .f32⟩
  | 75 => ⟨S_, .f32⟩
  | 76 => ⟨S32x5000, .f32⟩
  | 77 => ⟨S32x5000, .f32⟩
  | 78 => ⟨S32x5000, .f32⟩
  | 79 => ⟨S_, .i32⟩
  | 80 => ⟨S_, .f32⟩
  | 81 => ⟨S32x5120, .f32⟩
  | 82 => ⟨S_, .i32⟩
  | 83 => ⟨S_, .f32⟩
  | 84 => ⟨S32x5120, .f32⟩
  | 85 => ⟨S_, .i32⟩
  | 86 => ⟨S_, .f32⟩
  | 87 => ⟨S32x5120, .f32⟩
  | 88 => ⟨S_, .i32⟩
  | 89 => ⟨S_, .f32⟩
  | 90 => ⟨S32x5120, .f32⟩
  | 91 => ⟨S_, .i32⟩
  | 92 => ⟨S_, .f32⟩
  | 93 => ⟨S32x5120, .f32⟩
  | 94 => ⟨S_, .i32⟩
  | 95 => ⟨S_, .f32⟩
  | 96 => ⟨S32x5120, .f32⟩
  | 97 => ⟨S32x5120, .f32⟩
  | 98 => ⟨S32x5000, .f32⟩
  | 99 => ⟨S_, .f32⟩
  | 100 => ⟨S32x5000, .f32⟩
  | 101 => ⟨S32x5000, .i1⟩
  | 102 => ⟨S_, .f32⟩
  | 103 => ⟨S_, .f32⟩
  | 104 => ⟨S32x5000, .f32⟩
  | 105 => ⟨S32x5000, .f32⟩
  | 106 => ⟨S32x5000, .i32⟩
  | 107 => ⟨S32x5000, .i32⟩
  | 108 => ⟨S32x5000, .i32⟩
  | 109 => ⟨S_, .i32⟩
  | 110 => ⟨S32x5000, .i32⟩
  | 111 => ⟨S32x5000, .i1⟩
  | 112 => ⟨S_, .i32⟩
  | 113 => ⟨S32x5000, .i32⟩
  | 114 => ⟨S32x5000, .i32⟩
  | 115 => ⟨S32x5000, .i32⟩
  | 116 => ⟨S32x5000x1, .i32⟩
  | 117 => ⟨S1, .i32⟩
  | 118 => ⟨S_, .i32⟩
  | 119 => ⟨S32x5000x1, .i32⟩
  | 120 => ⟨S32x5000x1, .i1⟩
  | 121 => ⟨S1x1x1, .i32⟩
  | 122 => ⟨S32x5000x1, .i32⟩
  | 123 => ⟨S32x5000x1, .i1⟩
  | 124 => ⟨S32x5000x1, .i1⟩
  | 125 => ⟨S_, .i1⟩
  | 126 => ⟨S32x5000, .i1⟩
  | 127 => ⟨S32x5000, .f32⟩
  | _ => ⟨S8x5000x4, .f32⟩

abbrev hbmTy0_1 (i : Nat) : BufTy := match i % 128 with
  | 0 => ⟨S_, .f32⟩
  | 1 => ⟨S32x5000, .f32⟩
  | 2 => ⟨S32x5000, .f32⟩
  | 3 => ⟨S8x4x5000, .f32⟩
  | _ => ⟨S8x5000x4, .f32⟩

abbrev hbmTy (i : Nat) : BufTy := match i / 128 with
  | 0 => hbmTy0_0 i
  | 1 => hbmTy0_1 i
  | _ => ⟨S8x5000x4, .f32⟩

abbrev bufTy : (tb : Table) → Fin (tcTables nBuf tb) → BufTy
  | .hbm, ⟨i, _⟩ => hbmTy i
  | .local _ .vmem, ⟨0, _⟩ => ⟨S32x5120, .f32⟩
  | .local _ .vmem, ⟨1, _⟩ => ⟨S32x5120, .f32⟩
  | .local _ .vmem, ⟨2, _⟩ => ⟨S32x5120, .f32⟩
  | .local _ .vmem, ⟨3, _⟩ => ⟨S32x5120, .f32⟩
  | .local _ .vmem, ⟨4, _⟩ => ⟨S32x5120, .f32⟩
  | .local _ .vmem, ⟨5, _⟩ => ⟨S32x5120, .f32⟩
  | .local _ .vmem, ⟨6, _⟩ => ⟨S32x5120, .f32⟩
  | .local _ .vmem, ⟨7, _⟩ => ⟨S32x128x128, .f32⟩
  | _, _ => ⟨S8x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1_0 : Ref sig .tc := ⟨.hbm, 12, rfl⟩
abbrev main_v5 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_cst : Ref sig .tc := ⟨.hbm, 33, rfl⟩
abbrev main_call2_v14 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_c_1 : Ref sig .tc := ⟨.hbm, 47, rfl⟩
abbrev main_call3_c_2 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_c_3 : Ref sig .tc := ⟨.hbm, 55, rfl⟩
abbrev main_call3_v11 : Ref sig .tc := ⟨.hbm, 56, rfl⟩
abbrev main_call3_v12 : Ref sig .tc := ⟨.hbm, 57, rfl⟩
abbrev main_call3_v13 : Ref sig .tc := ⟨.hbm, 58, rfl⟩
abbrev main_call3_cst : Ref sig .tc := ⟨.hbm, 59, rfl⟩
abbrev main_call3_v14 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_1 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_2 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c : Ref sig .tc := ⟨.hbm, 79, rfl⟩
abbrev main_call4_v0 : Ref sig .tc := ⟨.hbm, 80, rfl⟩
abbrev main_v27 : Ref sig .tc := ⟨.hbm, 81, rfl⟩
abbrev main_c_3 : Ref sig .tc := ⟨.hbm, 82, rfl⟩
abbrev main_call5_v0 : Ref sig .tc := ⟨.hbm, 83, rfl⟩
abbrev main_v28 : Ref sig .tc := ⟨.hbm, 84, rfl⟩
abbrev main_c_4 : Ref sig .tc := ⟨.hbm, 85, rfl⟩
abbrev main_call6_v0 : Ref sig .tc := ⟨.hbm, 86, rfl⟩
abbrev main_v29 : Ref sig .tc := ⟨.hbm, 87, rfl⟩
abbrev main_c_5 : Ref sig .tc := ⟨.hbm, 88, rfl⟩
abbrev main_call7_v0 : Ref sig .tc := ⟨.hbm, 89, rfl⟩
abbrev main_v30 : Ref sig .tc := ⟨.hbm, 90, rfl⟩
abbrev main_c_6 : Ref sig .tc := ⟨.hbm, 91, rfl⟩
abbrev main_call8_v0 : Ref sig .tc := ⟨.hbm, 92, rfl⟩
abbrev main_v31 : Ref sig .tc := ⟨.hbm, 93, rfl⟩
abbrev main_c_7 : Ref sig .tc := ⟨.hbm, 94, rfl⟩
abbrev main_call9_v0 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_8 : Ref sig .tc := ⟨.hbm, 99, rfl⟩
abbrev main_v35 : Ref sig .tc := ⟨.hbm, 100, rfl⟩
abbrev main_v36 : Ref sig .tc := ⟨.hbm, 101, rfl⟩
abbrev main_cst_9 : Ref sig .tc := ⟨.hbm, 102, rfl⟩
abbrev main_call10_v0 : Ref sig .tc := ⟨.hbm, 103, rfl⟩
abbrev main_call10_v1 : Ref sig .tc := ⟨.hbm, 104, rfl⟩
abbrev main_v37 : Ref sig .tc := ⟨.hbm, 105, rfl⟩
abbrev main_call11_v0 : Ref sig .tc := ⟨.hbm, 106, rfl⟩
abbrev main_call11_v1_0 : Ref sig .tc := ⟨.hbm, 107, rfl⟩
abbrev main_v38 : Ref sig .tc := ⟨.hbm, 108, rfl⟩
abbrev main_call12_c : Ref sig .tc := ⟨.hbm, 109, rfl⟩
abbrev main_call12_v0 : Ref sig .tc := ⟨.hbm, 110, rfl⟩
abbrev main_call12_v1 : Ref sig .tc := ⟨.hbm, 111, rfl⟩
abbrev main_call12_c_0 : Ref sig .tc := ⟨.hbm, 112, rfl⟩
abbrev main_call12_v2 : Ref sig .tc := ⟨.hbm, 113, rfl⟩
abbrev main_call12_v3 : Ref sig .tc := ⟨.hbm, 114, rfl⟩
abbrev main_call12_v4 : Ref sig .tc := ⟨.hbm, 115, rfl⟩
abbrev main_call12_v5 : Ref sig .tc := ⟨.hbm, 116, rfl⟩
abbrev main_call12_c_1 : Ref sig .tc := ⟨.hbm, 117, rfl⟩
abbrev main_call12_c_2 : Ref sig .tc := ⟨.hbm, 118, rfl⟩
abbrev main_call12_v6 : Ref sig .tc := ⟨.hbm, 119, rfl⟩
abbrev main_call12_v7 : Ref sig .tc := ⟨.hbm, 120, rfl⟩
abbrev main_call12_v8 : Ref sig .tc := ⟨.hbm, 121, rfl⟩
abbrev main_call12_v9 : Ref sig .tc := ⟨.hbm, 122, rfl⟩
abbrev main_call12_v10 : Ref sig .tc := ⟨.hbm, 123, rfl⟩
abbrev main_call12_v11 : Ref sig .tc := ⟨.hbm, 124, rfl⟩
abbrev main_call12_c_3 : Ref sig .tc := ⟨.hbm, 125, rfl⟩
abbrev main_call12_v12 : Ref sig .tc := ⟨.hbm, 126, rfl⟩
abbrev main_call12_v13 : Ref sig .tc := ⟨.hbm, 127, rfl⟩
abbrev main_call12_cst : Ref sig .tc := ⟨.hbm, 128, rfl⟩
abbrev main_call12_v14 : Ref sig .tc := ⟨.hbm, 129, rfl⟩
abbrev main_v39 : Ref sig .tc := ⟨.hbm, 130, rfl⟩
abbrev main_v40 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c40_i32 : BitVec 32 := 40#32
  let v6 : BitVec 32 := Scalar.addi c0_i32 c40_i32
  let c1_i32 : BitVec 32 := 1#32
  ⟨c0_i32, v6, c1_i32⟩
def k0_off1 (k0_t1 : Fin k0_t1_loop.trips) : Fin 2 → Nat :=
  let c0_2 : Index := 0#32
  let c0_i32 : BitVec 32 := 0#32
  let c1_i32 : BitVec 32 := 1#32
  let arg8 : BitVec 32 := Scf.iv c0_i32 c1_i32 k0_t1
  let c128_i32 : BitVec 32 := 128#32
  let v7 : BitVec 32 := Scalar.muli arg8 c128_i32
  let v8 : Index := Scalar.indexCast v7
  ![0, v8.toNat]
@[reducible] def k0_t2_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_407 : BitVec 32 := 1#32
  let v1111 : BitVec 32 := Scalar.addi arg8 c1_i32_407
  let c40_i32_409 : BitVec 32 := 40#32
  let v1112 : BitVec 32 := Scalar.subi c40_i32_409 v1111
  let c1_i32_410 : BitVec 32 := 1#32
  let v1114 : BitVec 32 := Scalar.divsi v1112 c1_i32_410
  let v1115 : BitVec 32 := Scalar.muli v1114 c1_i32_410
  let v1116 : BitVec 32 := Scalar.addi v1111 v1115
  let c1_i32_411 : BitVec 32 := 1#32
  ⟨v1111, v1116, c1_i32_411⟩
def k0_off2 (k0_t1 : Fin k0_t1_loop.trips) (k0_t2 : Fin (k0_t2_loop k0_t1).trips) : Fin 2 → Nat :=
  let c0_414 : Index := 0#32
  let c0_i32 : BitVec 32 := 0#32
  let c1_i32 : BitVec 32 := 1#32
  let arg8 : BitVec 32 := Scf.iv c0_i32 c1_i32 k0_t1
  let c1_i32_407 : BitVec 32 := 1#32
  let v1111 : BitVec 32 := Scalar.addi arg8 c1_i32_407
  let c1_i32_411 : BitVec 32 := 1#32
  let arg9 : BitVec 32 := Scf.iv v1111 c1_i32_411 k0_t2
  let c128_i32_413 : BitVec 32 := 128#32
  let v1117 : BitVec 32 := Scalar.muli arg9 c128_i32_413
  let v1118 : Index := Scalar.indexCast v1117
  ![0, v1118.toNat]
@[reducible] def k0_t3_loop (k0_t1 : Fin k0_t1_loop.trips) : Scf.Loop 32 :=
  let c0_i32 : BitVec 32 := 0#32
  let c1_i32 : BitVec 32 := 1#32
  let arg8 : BitVec 32 := Scf.iv c0_i32 c1_i32 k0_t1
  let c1_i32_407 : BitVec 32 := 1#32
  let v1111 : BitVec 32 := Scalar.addi arg8 c1_i32_407
  let c40_i32_409 : BitVec 32 := 40#32
  let v1112 : BitVec 32 := Scalar.subi c40_i32_409 v1111
  let c1_i32_410 : BitVec 32 := 1#32
  let v1114 : BitVec 32 := Scalar.divsi v1112 c1_i32_410
  let v1115 : BitVec 32 := Scalar.muli v1114 c1_i32_410
  let v1116 : BitVec 32 := Scalar.addi v1111 v1115
  let v1113 : BitVec 32 := Scalar.addi v1111 v1112
  let c1_i32_412 : BitVec 32 := 1#32
  ⟨v1116, v1113, c1_i32_412⟩
def k0_off3 (k0_t1 : Fin k0_t1_loop.trips) (k0_t3 : Fin (k0_t3_loop k0_t1).trips) : Fin 2 → Nat :=
  let c0_414 : Index := 0#32
  let c0_i32 : BitVec 32 := 0#32
  let c1_i32 : BitVec 32 := 1#32
  let arg8 : BitVec 32 := Scf.iv c0_i32 c1_i32 k0_t1
  let c1_i32_407 : BitVec 32 := 1#32
  let v1111 : BitVec 32 := Scalar.addi arg8 c1_i32_407
  let c40_i32_409 : BitVec 32 := 40#32
  let v1112 : BitVec 32 := Scalar.subi c40_i32_409 v1111
  let c1_i32_410 : BitVec 32 := 1#32
  let v1114 : BitVec 32 := Scalar.divsi v1112 c1_i32_410
  let v1115 : BitVec 32 := Scalar.muli v1114 c1_i32_410
  let v1116 : BitVec 32 := Scalar.addi v1111 v1115
  let c1_i32_412 : BitVec 32 := 1#32
  let arg9 : BitVec 32 := Scf.iv v1116 c1_i32_412 k0_t3
  let c128_i32_413 : BitVec 32 := 128#32
  let v1117 : BitVec 32 := Scalar.muli arg9 c128_i32_413
  let v1118 : Index := Scalar.indexCast v1117
  ![0, v1118.toNat]
abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "big" => some ⊤
  | "folded_thr" => some ((7549747 / 24326963 : ℝ) : EReal)
  | _ => none
-- ==== ReferenceIdeal.lean ====
abbrev S8x5000x4 : Shape := ⟨3, ![8, 5000, 4]⟩
abbrev S8x4x5000 : Shape := ⟨3, ![8, 4, 5000]⟩
abbrev S_ : Shape := ⟨0, ![]⟩
abbrev S32x5000 : Shape := ⟨2, ![32, 5000]⟩
abbrev S32x5000x1 : Shape := ⟨3, ![32, 5000, 1]⟩
abbrev S1 : Shape := ⟨1, ![1]⟩
abbrev S1x1x1 : Shape := ⟨3, ![1, 1, 1]⟩
abbrev S8x1x5000x4 : Shape := ⟨4, ![8, 1, 5000, 4]⟩
abbrev S8x4x5000x4 : Shape := ⟨4, ![8, 4, 5000, 4]⟩
abbrev S32x5000x4 : Shape := ⟨3, ![32, 5000, 4]⟩
abbrev S32x1 : Shape := ⟨2, ![32, 1]⟩
abbrev S32x5000x2 : Shape := ⟨3, ![32, 5000, 2]⟩

abbrev nBuf : Space → Nat
  | .hbm => 187
  | .vmem => 0
  | .smem => 0
  | _ => 0

abbrev hbmTy0_0 (i : Nat) : BufTy := match i % 128 with
  | 0 => ⟨S8x5000x4, .f32⟩
  | 1 => ⟨S8x4x5000, .f32⟩
  | 2 => ⟨S_, .f32⟩
  | 3 => ⟨S8x4x5000, .f32⟩
  | 4 => ⟨S8x4x5000, .i1⟩
  | 5 => ⟨S_, .f32⟩
  | 6 => ⟨S_, .f32⟩
  | 7 => ⟨S8x4x5000, .f32⟩
  | 8 => ⟨S8x4x5000, .f32⟩
  | 9 => ⟨S32x5000, .f32⟩
  | 10 => ⟨S32x5000, .f32⟩
  | 11 => ⟨S32x5000, .i32⟩
  | 12 => ⟨S32x5000, .f32⟩
  | 13 => ⟨S32x5000, .i32⟩
  | 14 => ⟨S_, .i32⟩
  | 15 => ⟨S32x5000, .i32⟩
  | 16 => ⟨S32x5000, .i1⟩
  | 17 => ⟨S_, .i32⟩
  | 18 => ⟨S32x5000, .i32⟩
  | 19 => ⟨S32x5000, .i32⟩
  | 20 => ⟨S32x5000, .i32⟩
  | 21 => ⟨S32x5000x1, .i32⟩
  | 22 => ⟨S1, .i32⟩
  | 23 => ⟨S_, .i32⟩
  | 24 => ⟨S32x5000x1, .i32⟩
  | 25 => ⟨S32x5000x1, .i1⟩
  | 26 => ⟨S1x1x1, .i32⟩
  | 27 => ⟨S32x5000x1, .i32⟩
  | 28 => ⟨S32x5000x1, .i1⟩
  | 29 => ⟨S32x5000x1, .i1⟩
  | 30 => ⟨S_, .i1⟩
  | 31 => ⟨S32x5000, .i1⟩
  | 32 => ⟨S32x5000, .f32⟩
  | 33 => ⟨S_, .f32⟩
  | 34 => ⟨S32x5000, .f32⟩
  | 35 => ⟨S32x5000, .f32⟩
  | 36 => ⟨S8x1x5000x4, .f32⟩
  | 37 => ⟨S8x4x5000x4, .f32⟩
  | 38 => ⟨S32x5000x4, .f32⟩
  | 39 => ⟨S32x5000x1, .i32⟩
  | 40 => ⟨S_, .i32⟩
  | 41 => ⟨S32x5000x1, .i32⟩
  | 42 => ⟨S32x5000x1, .i1⟩
  | 43 => ⟨S_, .i32⟩
  | 44 => ⟨S32x5000x1, .i32⟩
  | 45 => ⟨S32x5000x1, .i32⟩
  | 46 => ⟨S32x5000x1, .i32⟩
  | 47 => ⟨S1, .i32⟩
  | 48 => ⟨S_, .i32⟩
  | 49 => ⟨S32x5000x1, .i32⟩
  | 50 => ⟨S32x5000x1, .i1⟩
  | 51 => ⟨S1x1x1, .i32⟩
  | 52 => ⟨S32x5000x1, .i32⟩
  | 53 => ⟨S32x5000x1, .i1⟩
  | 54 => ⟨S32x5000x1, .i1⟩
  | 55 => ⟨S_, .i1⟩
  | 56 => ⟨S32x5000, .i1⟩
  | 57 => ⟨S32x5000x4, .f32⟩
  | 58 => ⟨S32x5000x4, .i1⟩
  | 59 => ⟨S_, .f32⟩
  | 60 => ⟨S32x5000x4, .f32⟩
  | 61 => ⟨S32x5000x4, .f32⟩
  | 62 => ⟨S32x5000x1, .f32⟩
  | 63 => ⟨S32x5000, .f32⟩
  | 64 => ⟨S32x5000x1, .f32⟩
  | 65 => ⟨S32x5000, .f32⟩
  | 66 => ⟨S32x5000x1, .f32⟩
  | 67 => ⟨S32x5000, .f32⟩
  | 68 => ⟨S32x5000x1, .f32⟩
  | 69 => ⟨S32x5000, .f32⟩
  | 70 => ⟨S32x5000, .f32⟩
  | 71 => ⟨S_, .f32⟩
  | 72 => ⟨S_, .f32⟩
  | 73 => ⟨S32x5000, .f32⟩
  | 74 => ⟨S32x5000, .f32⟩
  | 75 => ⟨S32x5000, .f32⟩
  | 76 => ⟨S_, .f32⟩
  | 77 => ⟨S_, .f32⟩
  | 78 => ⟨S32x5000, .f32⟩
  | 79 => ⟨S32x5000, .f32⟩
  | 80 => ⟨S32x5000, .f32⟩
  | 81 => ⟨S32x5000, .i32⟩
  | 82 => ⟨S_, .i1⟩
  | 83 => ⟨S32x5000, .i1⟩
  | 84 => ⟨S_, .i32⟩
  | 85 => ⟨S_, .i32⟩
  | 86 => ⟨S32x5000, .f32⟩
  | 87 => ⟨S32x5000, .f32⟩
  | 88 => ⟨S32x5000, .f32⟩
  | 89 => ⟨S32x5000, .f32⟩
  | 90 => ⟨S32x5000, .f32⟩
  | 91 => ⟨S32x5000, .f32⟩
  | 92 => ⟨S32x5000, .i32⟩
  | 93 => ⟨S_, .i32⟩
  | 94 => ⟨S_, .i32⟩
  | 95 => ⟨S32x5000, .i1⟩
  | 96 => ⟨S_, .i32⟩
  | 97 => ⟨S_, .i1⟩
  | 98 => ⟨S_, .i32⟩
  | 99 => ⟨S_, .i32⟩
  | 100 => ⟨S_, .i32⟩
  | 101 => ⟨S32x1, .f32⟩
  | 102 => ⟨S32x5000, .f32⟩
  | 103 => ⟨S32x5000, .f32⟩
  | 104 => ⟨S_, .i32⟩
  | 105 => ⟨S32x1, .f32⟩
  | 106 => ⟨S32x5000, .f32⟩
  | 107 => ⟨S32x5000, .f32⟩
  | 108 => ⟨S32x5000, .f32⟩
  | 109 => ⟨S_, .f32⟩
  | 110 => ⟨S_, .f32⟩
  | 111 => ⟨S32x5000, .f32⟩
  | 112 => ⟨S32x5000, .f32⟩
  | 113 => ⟨S_, .i32⟩
  | 114 => ⟨S32x1, .f32⟩
  | 115 => ⟨S32x5000, .f32⟩
  | 116 => ⟨S32x5000, .f32⟩
  | 117 => ⟨S_, .i32⟩
  | 118 => ⟨S32x1, .f32⟩
  | 119 => ⟨S32x5000, .f32⟩
  | 120 => ⟨S32x5000, .f32⟩
  | 121 => ⟨S32x5000, .f32⟩
  | 122 => ⟨S_, .f32⟩
  | 123 => ⟨S_, .f32⟩
  | 124 => ⟨S32x5000, .f32⟩
  | 125 => ⟨S32x5000, .f32⟩
  | 126 => ⟨S32x5000, .f32⟩
  | 127 => ⟨S_, .i32⟩
  | _ => ⟨S8x5000x4, .f32⟩

abbrev hbmTy0_1 (i : Nat) : BufTy := match i % 128 with
  | 0 => ⟨S32x1, .f32⟩
  | 1 => ⟨S32x5000, .f32⟩
  | 2 => ⟨S32x5000, .f32⟩
  | 3 => ⟨S32x5000, .f32⟩
  | 4 => ⟨S_, .f32⟩
  | 5 => ⟨S32x5000, .f32⟩
  | 6 => ⟨S32x5000, .i1⟩
  | 7 => ⟨S32x5000, .f32⟩
  | 8 => ⟨S_, .f32⟩
  | 9 => ⟨S_, .f32⟩
  | 10 => ⟨S32x5000, .f32⟩
  | 11 => ⟨S32x5000, .f32⟩
  | 12 => ⟨S_, .i32⟩
  | 13 => ⟨S32x1, .i1⟩
  | 14 => ⟨S_, .i32⟩
  | 15 => ⟨S32x1, .f32⟩
  | 16 => ⟨S_, .f32⟩
  | 17 => ⟨S32x1, .f32⟩
  | 18 => ⟨S32x1, .i1⟩
  | 19 => ⟨S32x1, .i1⟩
  | 20 => ⟨S_, .f32⟩
  | 21 => ⟨S32x5000, .f32⟩
  | 22 => ⟨S32x5000, .i1⟩
  | 23 => ⟨S_, .i32⟩
  | 24 => ⟨S32x5000, .i32⟩
  | 25 => ⟨S32x5000, .i1⟩
  | 26 => ⟨S32x5000, .i1⟩
  | 27 => ⟨S32x5000, .i1⟩
  | 28 => ⟨S32x5000, .i1⟩
  | 29 => ⟨S32x5000, .i1⟩
  | 30 => ⟨S32x5000, .i1⟩
  | 31 => ⟨S_, .i32⟩
  | 32 => ⟨S_, .i32⟩
  | 33 => ⟨S_, .f32⟩
  | 34 => ⟨S_, .f32⟩
  | 35 => ⟨S32x5000, .f32⟩
  | 36 => ⟨S32x5000, .f32⟩
  | 37 => ⟨S32x5000, .i32⟩
  | 38 => ⟨S_, .f32⟩
  | 39 => ⟨S32x5000, .f32⟩
  | 40 => ⟨S_, .i32⟩
  | 41 => ⟨S32x5000, .i32⟩
  | 42 => ⟨S32x5000, .i1⟩
  | 43 => ⟨S_, .i32⟩
  | 44 => ⟨S32x5000, .i32⟩
  | 45 => ⟨S32x5000, .i32⟩
  | 46 => ⟨S32x5000, .i32⟩
  | 47 => ⟨S_, .i32⟩
  | 48 => ⟨S32x5000, .i32⟩
  | 49 => ⟨S32x5000, .i1⟩
  | 50 => ⟨S_, .i32⟩
  | 51 => ⟨S32x5000, .i32⟩
  | 52 => ⟨S32x5000, .i32⟩
  | 53 => ⟨S32x5000, .i32⟩
  | 54 => ⟨S32x5000x1, .i32⟩
  | 55 => ⟨S32x5000x1, .i32⟩
  | 56 => ⟨S32x5000x2, .i32⟩
  | 57 => ⟨S32x5000, .f32⟩
  | 58 => ⟨S8x4x5000, .f32⟩
  | _ => ⟨S8x5000x4, .f32⟩

abbrev hbmTy (i : Nat) : BufTy := match i / 128 with
  | 0 => hbmTy0_0 i
  | 1 => hbmTy0_1 i
  | _ => ⟨S8x5000x4, .f32⟩

abbrev bufTy : (tb : Table) → Fin (tcTables nBuf tb) → BufTy
  | .hbm, ⟨i, _⟩ => hbmTy i
  | _, _ => ⟨S8x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1_0 : Ref sig .tc := ⟨.hbm, 12, rfl⟩
abbrev main_v5 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_cst : Ref sig .tc := ⟨.hbm, 33, rfl⟩
abbrev main_call2_v14 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_c_1 : Ref sig .tc := ⟨.hbm, 47, rfl⟩
abbrev main_call3_c_2 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_c_3 : Ref sig .tc := ⟨.hbm, 55, rfl⟩
abbrev main_call3_v11 : Ref sig .tc := ⟨.hbm, 56, rfl⟩
abbrev main_call3_v12 : Ref sig .tc := ⟨.hbm, 57, rfl⟩
abbrev main_call3_v13 : Ref sig .tc := ⟨.hbm, 58, rfl⟩
abbrev main_call3_cst : Ref sig .tc := ⟨.hbm, 59, rfl⟩
abbrev main_call3_v14 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_v21 : Ref sig .tc := ⟨.hbm, 74, rfl⟩
abbrev main_v22 : Ref sig .tc := ⟨.hbm, 75, rfl⟩
abbrev main_cst_2 : Ref sig .tc := ⟨.hbm, 76, rfl⟩
abbrev main_call5_v0 : Ref sig .tc := ⟨.hbm, 77, rfl⟩
abbrev main_call5_v1 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_c : Ref sig .tc := ⟨.hbm, 82, rfl⟩
abbrev main_v26 : Ref sig .tc := ⟨.hbm, 83, rfl⟩
abbrev main_c_3 : Ref sig .tc := ⟨.hbm, 84, rfl⟩
abbrev main_c_4 : Ref sig .tc := ⟨.hbm, 85, rfl⟩
abbrev main_v27_0 : Ref sig .tc := ⟨.hbm, 86, rfl⟩
abbrev main_v27_1 : Ref sig .tc := ⟨.hbm, 87, rfl⟩
abbrev main_v27_2 : Ref sig .tc := ⟨.hbm, 88, rfl⟩
abbrev main_v27_3 : Ref sig .tc := ⟨.hbm, 89, rfl⟩
abbrev main_v27_4 : Ref sig .tc := ⟨.hbm, 90, rfl⟩
abbrev main_v27_5 : Ref sig .tc := ⟨.hbm, 91, rfl⟩
abbrev main_v27_6 : Ref sig .tc := ⟨.hbm, 92, rfl⟩
abbrev main_v27_7 : Ref sig .tc := ⟨.hbm, 93, rfl⟩
abbrev main_v27_8 : Ref sig .tc := ⟨.hbm, 94, rfl⟩
abbrev main_v27_9 : Ref sig .tc := ⟨.hbm, 95, rfl⟩
abbrev main_while0c_c_20 : Ref sig .tc := ⟨.hbm, 96, rfl⟩
abbrev main_while0c_v46 : Ref sig .tc := ⟨.hbm, 97, rfl⟩
abbrev main_while0b_c_20 : Ref sig .tc := ⟨.hbm, 98, rfl⟩
abbrev main_while0b_v46 : Ref sig .tc := ⟨.hbm, 99, rfl⟩
abbrev main_while0b_c_21 : Ref sig .tc := ⟨.hbm, 100, rfl⟩
abbrev main_while0b_v47 : Ref sig .tc := ⟨.hbm, 101, rfl⟩
abbrev main_while0b_v48 : Ref sig .tc := ⟨.hbm, 102, rfl⟩
abbrev main_while0b_v49 : Ref sig .tc := ⟨.hbm, 103, rfl⟩
abbrev main_while0b_c_22 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_cst_23 : Ref sig .tc := ⟨.hbm, 109, rfl⟩
abbrev main_while0b_call6_v0 : Ref sig .tc := ⟨.hbm, 110, rfl⟩
abbrev main_while0b_call6_v1 : Ref sig .tc := ⟨.hbm, 111, rfl⟩
abbrev main_while0b_v54 : Ref sig .tc := ⟨.hbm, 112, rfl⟩
abbrev main_while0b_c_24 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_c_25 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_cst_26 : Ref sig .tc := ⟨.hbm, 122, rfl⟩
abbrev main_while0b_call7_v0 : Ref sig .tc := ⟨.hbm, 123, rfl⟩
abbrev main_while0b_call7_v1 : Ref sig .tc := ⟨.hbm, 124, rfl⟩
abbrev main_while0b_v62 : Ref sig .tc := ⟨.hbm, 125, rfl⟩
abbrev main_while0b_v63 : Ref sig .tc := ⟨.hbm, 126, rfl⟩
abbrev main_while0b_c_27 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_cst_28 : Ref sig .tc := ⟨.hbm, 132, rfl⟩
abbrev main_while0b_v68 : Ref sig .tc := ⟨.hbm, 133, rfl⟩
abbrev main_while0b_v69 : Ref sig .tc := ⟨.hbm, 134, rfl⟩
abbrev main_while0b_v70 : Ref sig .tc := ⟨.hbm, 135, rfl⟩
abbrev main_while0b_cst_29 : Ref sig .tc := ⟨.hbm, 136, rfl⟩
abbrev main_while0b_call8_v0 : Ref sig .tc := ⟨.hbm, 137, rfl⟩
abbrev main_while0b_call8_v1 : Ref sig .tc := ⟨.hbm, 138, rfl⟩
abbrev main_while0b_v71 : Ref sig .tc := ⟨.hbm, 139, rfl⟩
abbrev main_while0b_c_30 : Ref sig .tc := ⟨.hbm, 140, rfl⟩
abbrev main_while0b_v72 : Ref sig .tc := ⟨.hbm, 141, rfl⟩
abbrev main_while0b_c_31 : Ref sig .tc := ⟨.hbm, 142, rfl⟩
abbrev main_while0b_v73 : Ref sig .tc := ⟨.hbm, 143, rfl⟩
abbrev main_while0b_cst_32 : Ref sig .tc := ⟨.hbm, 144, rfl⟩
abbrev main_while0b_v74 : Ref sig .tc := ⟨.hbm, 145, rfl⟩
abbrev main_while0b_v75 : Ref sig .tc := ⟨.hbm, 146, rfl⟩
abbrev main_while0b_v76 : Ref sig .tc := ⟨.hbm, 147, rfl⟩
abbrev main_while0b_cst_33 : Ref sig .tc := ⟨.hbm, 148, rfl⟩
abbrev main_while0b_v77 : Ref sig .tc := ⟨.hbm, 149, rfl⟩
abbrev main_while0b_v78 : Ref sig .tc := ⟨.hbm, 150, rfl⟩
abbrev main_while0b_v79 : Ref sig .tc := ⟨.hbm, 151, rfl⟩
abbrev main_while0b_v80 : Ref sig .tc := ⟨.hbm, 152, rfl⟩
abbrev main_while0b_v81 : Ref sig .tc := ⟨.hbm, 153, rfl⟩
abbrev main_while0b_v82 : Ref sig .tc := ⟨.hbm, 154, rfl⟩
abbrev main_while0b_v83 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_c_34 : Ref sig .tc := ⟨.hbm, 159, rfl⟩
abbrev main_while0b_v87 : Ref sig .tc := ⟨.hbm, 160, rfl⟩
abbrev main_cst_5 : Ref sig .tc := ⟨.hbm, 161, rfl⟩
abbrev main_call9_v0 : Ref sig .tc := ⟨.hbm, 162, rfl⟩
abbrev main_call9_v1 : Ref sig .tc := ⟨.hbm, 163, rfl⟩
abbrev main_v28 : Ref sig .tc := ⟨.hbm, 164, rfl⟩
abbrev main_v29 : Ref sig .tc := ⟨.hbm, 165, rfl⟩
abbrev main_cst_6 : Ref sig .tc := ⟨.hbm, 166, rfl⟩
abbrev main_v30 : Ref sig .tc := ⟨.hbm, 167, rfl⟩
abbrev main_c_7 : Ref sig .tc := ⟨.hbm, 168, rfl⟩
abbrev main_v31 : Ref sig .tc := ⟨.hbm, 169, rfl⟩
abbrev main_v32 : Ref sig .tc := ⟨.hbm, 170, rfl⟩
abbrev main_c_8 : Ref sig .tc := ⟨.hbm, 171, rfl⟩
abbrev main_v33 : Ref sig .tc := ⟨.hbm, 172, rfl⟩
abbrev main_v34 : Ref sig .tc := ⟨.hbm, 173, rfl⟩
abbrev main_v35 : Ref sig .tc := ⟨.hbm, 174, rfl⟩
abbrev main_c_9 : Ref sig .tc := ⟨.hbm, 175, rfl⟩
abbrev main_v36 : Ref sig .tc := ⟨.hbm, 176, rfl⟩
abbrev main_v37 : Ref sig .tc := ⟨.hbm, 177, rfl⟩
abbrev main_c_10 : Ref sig .tc := ⟨.hbm, 178, rfl⟩
abbrev main_v38 : Ref sig .tc := ⟨.hbm, 179, rfl⟩
abbrev main_v39 : Ref sig .tc := ⟨.hbm, 180, rfl⟩
abbrev main_v40 : Ref sig .tc := ⟨.hbm, 181, rfl⟩
abbrev main_v41 : Ref sig .tc := ⟨.hbm, 182, rfl⟩
abbrev main_v42 : Ref sig .tc := ⟨.hbm, 183, rfl⟩
abbrev main_v43 : Ref sig .tc := ⟨.hbm, 184, rfl⟩
abbrev main_v44 : Ref sig .tc := ⟨.hbm, 185, rfl⟩
abbrev main_v45 : Ref sig .tc := ⟨.hbm, 186, rfl⟩

abbrev nD : Nat := 1
abbrev τ : Topo := Topo.v7x

variable {F : FTy → Type} [FloatOps F]

abbrev main_while0_count : Scf.Loop 32 := ⟨0#32, 5000#32, 1#32⟩
-- ==== Proof.Body.lean ====
/- The kernel body of `KernelIdeal` run by values: what each buffer holds after one trip of each loop, as plain functions of
   vectors. A buffer is held at `View.rep x`, so a load reads a window of `x` and a store puts a payload over one. -/
module

public import proofs.«01_k».proof.Proof.Gen.KernelIdeal.Frame
public import proofs.«01_k».proof.Proof.Gen.KernelIdeal.Loops
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The chain of one block: 128 rows taken in order -/

/-- What the chain carries between two rows: the block's keep vector, the next row of the mask, and the next keep entry
    along the row. -/
abbrev Carry (F : FTy → Type) [FloatOps F] : Type := Σ' (_ : FVec F S32x128 .f32) (_ : FVec F S32x128 .f32), FVec F S32x128 .f32

theorem inb_row (i : ℕ) (h : i < 128) : ∀ a, (![0, i, 0] : Fin 3 → ℕ) a + S32x1x128.size a ≤ S32x128x128.size a := by
  intro a; fin_cases a
  · exact (by decide : 0 + 32 ≤ 32)
  · show i + 1 ≤ 128; omega
  · exact (by decide : 0 + 128 ≤ 128)

theorem slices_col (i : ℕ) (h : i < 128) : S32x128.Slices ![0, i] S32x1 := by
  refine ⟨rfl, ?_⟩
  intro a; fin_cases a
  · exact (by decide : 0 + 32 ≤ 32)
  · show i + 1 ≤ 128; omega

/-- One row applied: the entries the row marks are cleared when the row's own entry is kept. -/
def applyRow (b p o : FVec F S32x128 .f32) : FVec F S32x128 .f32 :=
  mulf b (subf (broadcast S32x128 (Scalar.ofBits .f32 0x3F800000#32)) (mulf p o))

/-- Keep entry `i` of a block along the row. -/
def colOf (i : ℕ) (h : i < 128) (b : FVec F S32x128 .f32) : FVec F S32x128 .f32 :=
  broadcastTo S32x128 (extractStridedSlice S32x1 ![0, i] b (slices_col i h)) broadcasts_S32x1_S32x128

/-- A loaded row as a flat vector. -/
def rowOf (r : Vec F S32x1x128 .f32) : FVec F S32x128 .f32 := shapeCast S32x128 r shapeCasts_S32x1x128_S32x128

/-- One more row taken: the carried one applied, row `i` next. -/
def nextRow (i : ℕ) (h : i < 128) (s : Carry F) (r : Vec F S32x1x128 .f32) : Carry F :=
  ⟨applyRow s.1 s.2.1 s.2.2, rowOf r, colOf i h (applyRow s.1 s.2.1 s.2.2)⟩

/-- Row `i` loaded from the scratch. -/
def loadRow (arg7 : Memref sig .tc .vmem S32x128x128 .f32) (i : ℕ) (h : i < 128) :
    Prog (TpuEff nD τ sig (Elt F) Λ₀ .tc) (Vec F S32x1x128 .f32) :=
  Prog.lift (.load arg7 (Rect.unit (s := S32x128x128) ![0, i, 0] S32x1x128.size (inb_row i h)).toLoadRect (View.loadsAt_vmem h_S32x1x128))

/-- Five rows from row `i` on. -/
def five (arg7 : Memref sig .tc .vmem S32x128x128 .f32) (i : ℕ) (h : i + 5 ≤ 128) (s : Carry F) :
    Prog (TpuEff nD τ sig (Elt F) Λ₀ .tc) (Carry F) := do
  let r0 ← loadRow arg7 i (by omega)
  let r1 ← loadRow arg7 (i + 1) (by omega)
  let r2 ← loadRow arg7 (i + 2) (by omega)
  let r3 ← loadRow arg7 (i + 3) (by omega)
  let r4 ← loadRow arg7 (i + 4) (by omega)
  pure (nextRow (i + 4) (by omega) (nextRow (i + 3) (by omega) (nextRow (i + 2) (by omega) (nextRow (i + 1) (by omega)
      (nextRow i (by omega) s r0) r1) r2) r3) r4)

/-- `n` groups of five rows from row `i` on. -/
def fives (arg7 : Memref sig .tc .vmem S32x128x128 .f32) :
    (n i : ℕ) → i + 5 * n ≤ 128 → List (Carry F → Prog (TpuEff nD τ sig (Elt F) Λ₀ .tc) (Carry F))
  | 0, _, _ => []
  | n + 1, i, h => five arg7 i (by omega) :: fives arg7 n (i + 5) (by omega)

/-- The programs of a list one after another, then `k`. -/
def seqs {α : Type} (k : Carry F → Prog (TpuEff nD τ sig (Elt F) Λ₀ .tc) α) :
    List (Carry F → Prog (TpuEff nD τ sig (Elt F) Λ₀ .tc) (Carry F)) → Carry F → Prog (TpuEff nD τ sig (Elt F) Λ₀ .tc) α
  | [], s => k s
  | p :: ps, s => p s >>= seqs k ps

/-- Row `i` of the mask `M`. -/
def rowAt (M : FVec F S32x128x128 .f32) (i : ℕ) (h : i < 128) : Vec F S32x1x128 .f32 :=
  VecWindow.window (α := Elt F .f32) (s := S32x128x128) M ![0, i, 0] S32x1x128.size (inb_row i h)

/-- The carry after `n` more rows from row `i` on. -/
def rows (M : FVec F S32x128x128 .f32) : (n i : ℕ) → i + n ≤ 128 → Carry F → Carry F
  | 0, _, _, s => s
  | n + 1, i, h, s => rows M n (i + 1) (by omega) (nextRow i (by omega) s (rowAt M i (by omega)))

/-- A load of row `i` of the scratch holding the mask `M`. -/
theorem readAt_row (v : View sig .tc .vmem S32x128x128 .f32) (M : FVec F S32x128x128 .f32) (i : ℕ) (h : i < 128)
    (inb : ∀ a, (![0, i, 0] : Fin 3 → ℕ) a + S32x1x128.size a ≤ S32x128x128.size a) :
    v.readAt (Elt F) (Rect.unit (s := S32x128x128) ![0, i, 0] S32x1x128.size inb).toLoadRect (v.rep M) = rowAt M i h := by
  rw [View.readAt_unit v _ inb rfl (inb_row i h), View.read_rep]
  rfl

/-- A row read back after the whole mask was stored is the row of the mask. -/
theorem readCov_row (v : View sig .tc .vmem S32x128x128 .f32) (M : FVec F S32x128x128 .f32) (i : ℕ) (h : i < 128)
    (inb : ∀ a, (![0, i, 0] : Fin 3 → ℕ) a + S32x1x128.size a ≤ S32x128x128.size a)
    (inb0 : ∀ a, (![0, 0, 0] : Fin 3 → ℕ) a + S32x128x128.size a ≤ S32x128x128.size a) :
    v.readCov (Val := Elt F) [⟨Rect.unit (s := S32x128x128) ![0, 0, 0] S32x128x128.size inb0, M⟩]
      (Rect.unit (s := S32x128x128) ![0, i, 0] S32x1x128.size inb).toLoadRect = rowAt M i h := by
  unfold View.readCov
  rw [View.readAt_unit v _ inb rfl (inb_row i h), View.read_writes_full]
  rfl

section Wp
variable (𝒱 : Variants) (c : Dev nD) (bd : Option 𝒱.V)

/-- Five rows run: the scratch is read only, and the rest goes on from the carry. -/
theorem wp_five {α : Type} (arg7 : Memref sig .tc .vmem S32x128x128 .f32) (M : FVec F S32x128x128 .f32) (E : Set ℕ)
    (k : Carry F → Prog (TpuEff nD τ sig (Elt F) Λ₀ .tc) α) (Q : α → sProp 𝕄) (i : ℕ) (h : i + 5 ≤ 128) (s : Carry F) :
      iprop((arg7.view.loc (c : Thread nD τ) ↦[arg7.view.set]{fullShare} arg7.view.rep M)
        ∗ ((arg7.view.loc (c : Thread nD τ) ↦[arg7.view.set]{fullShare} arg7.view.rep M)
            -∗ wp Idealize.ShloMosaic.frame (wpE (defs₀ (F := F)) 𝒱 (c : Thread nD τ) bd) E (k (rows M 5 i h s)) Q))
      ⊢ wp Idealize.ShloMosaic.frame (wpE (defs₀ (F := F)) 𝒱 (c : Thread nD τ) bd) E (five arg7 i h s >>= k) Q := by
  iintro ⟨H, Hk⟩
  unfold five loadRow
  sl_exec
  rw [readAt_row _ _ i (by omega), readAt_row _ _ (i + 1) (by omega), readAt_row _ _ (i + 2) (by omega),
    readAt_row _ _ (i + 3) (by omega), readAt_row _ _ (i + 4) (by omega)]
  iapply Hk
  iexact H

/-- The groups of rows run, one after another. -/
theorem wp_fives {α : Type} (arg7 : Memref sig .tc .vmem S32x128x128 .f32) (M : FVec F S32x128x128 .f32) (E : Set ℕ)
    (k : Carry F → Prog (TpuEff nD τ sig (Elt F) Λ₀ .tc) α) (Q : α → sProp 𝕄) :
    ∀ (n i : ℕ) (h : i + 5 * n ≤ 128) (s : Carry F),
      iprop((arg7.view.loc (c : Thread nD τ) ↦[arg7.view.set]{fullShare} arg7.view.rep M)
        ∗ ((arg7.view.loc (c : Thread nD τ) ↦[arg7.view.set]{fullShare} arg7.view.rep M)
            -∗ wp Idealize.ShloMosaic.frame (wpE (defs₀ (F := F)) 𝒱 (c : Thread nD τ) bd) E (k (rows M (5 * n) i h s)) Q))
      ⊢ wp Idealize.ShloMosaic.frame (wpE (defs₀ (F := F)) 𝒱 (c : Thread nD τ) bd) E (seqs k (fives arg7 n i h) s) Q := by
  intro n
  induction n with
  | zero =>
    intro i h s
    iintro ⟨H, Hk⟩
    unfold fives seqs
    iapply Hk
    iexact H
  | succ n ih =>
    intro i h s
    iintro ⟨H, Hk⟩
    unfold fives seqs
    iapply (wp_five 𝒱 c bd arg7 M E (seqs k (fives arg7 n (i + 5) _)) Q i _ s)
    isplitl [H]; · iexact H
    iintro H
    iapply (ih (i + 5) _ (rows M 5 i _ s))
    isplitl [H]; · iexact H
    iexact Hk

end Wp

/-! ## The block's program over the groups of rows -/

section Part
variable (arg0 : Memref sig .tc .vmem S32x5120 .f32) (harg0 : arg0.IsWhole) (arg1 : Memref sig .tc .vmem S32x5120 .f32) (harg1 : arg1.IsWhole) (arg2 : Memref sig .tc .vmem S32x5120 .f32) (harg2 : arg2.IsWhole) (arg3 : Memref sig .tc .vmem S32x5120 .f32) (harg3 : arg3.IsWhole) (arg4 : Memref sig .tc .vmem S32x5120 .f32) (harg4 : arg4.IsWhole) (arg5 : Memref sig .tc .vmem S32x5120 .f32) (harg5 : arg5.IsWhole) (arg6 : Memref sig .tc .vmem S32x5120 .f32) (harg6 : arg6.IsWhole) (arg7 : Memref sig .tc .vmem S32x128x128 .f32) (harg7 : arg7.IsWhole)

/-- The rest of a trip after the chain: the block's keep entries stored, then the later blocks. -/
def afterRows (v5 : IVec S1x128x128 1) (c0_i32 c1_i32 : BitVec 32) (k0_t1 : Fin k0_t1_loop.trips) (arg8 : BitVec 32) (v10 v13 v16 v19 v31 : FVec F S32x128 .f32)
    (s : Carry F) : Prog (TpuEff nD τ sig (Elt F) Λ₀ .tc) (Σ' (v1106 : FVec F S32x128x1 .f32) (v1107 : FVec F S32x128x1 .f32) (v1108 : FVec F S32x128x1 .f32) (v1109 : FVec F S32x128x1 .f32) (v1110 : FVec F S32x128x1 .f32) (v1116 : BitVec 32), BitVec 32) := do
  let v1101 : Vec F S32x128 .f32 ← Prog.lift (.load arg6 (Rect.unit (s := S32x5120) (k0_off1 k0_t1) S32x128.size (k0_off1_inb k0_t1)).toLoadRect (View.loadsAt_vmem h_S32x128))
  Prog.lift (.store arg6 (Rect.unit (s := S32x5120) (k0_off1 k0_t1) S32x128.size (k0_off1_inb k0_t1)) (k0_pay96 s.1 s.2.1 s.2.2) Finset.univ (View.stores_vmem_bits_univ h_S32x128 rfl) (.inl rfl))
  let v1111 : BitVec 32 := Scalar.addi arg8 1#32
  let v1112 : BitVec 32 := Scalar.subi 40#32 v1111
  let v1114 : BitVec 32 := Scalar.divsi v1112 1#32
  let v1115 : BitVec 32 := Scalar.muli v1114 1#32
  let v1116 : BitVec 32 := Scalar.addi v1111 v1115
  Scf.Loop.for (k0_t2_loop k0_t1) (k0_t2_ok k0_t1) ⟨⟩ (k0_t2_body arg0 harg0 arg1 harg1 arg2 harg2 arg3 harg3 arg4 harg4 arg5 harg5 arg6 harg6 arg7 harg7 v5 c0_i32 c1_i32 k0_t1 v10 v13 v16 v19 v31 s.1 s.2.1 s.2.2 v1111)
  pure ⟨k0_pay97 v10, k0_pay98 v13, k0_pay99 v16, k0_pay100 v19, k0_pay101 v31 s.1 s.2.1 s.2.2, v1116, 1#32⟩

/-- The printed groups of rows 3 to 127, in order. -/
def printed : List (Carry F → Prog (TpuEff nD τ sig (Elt F) Λ₀ .tc) (Carry F)) :=
  [fun s => k0_part5 (F := F) arg0 harg0 arg1 harg1 arg2 harg2 arg3 harg3 arg4 harg4 arg5 harg5 arg6 harg6 arg7 harg7 s.1 s.2.1 s.2.2, fun s => k0_part6 (F := F) arg0 harg0 arg1 harg1 arg2 harg2 arg3 harg3 arg4 harg4 arg5 harg5 arg6 harg6 arg7 harg7 s.1 s.2.1 s.2.2, fun s => k0_part7 (F := F) arg0 harg0 arg1 harg1 arg2 harg2 arg3 harg3 arg4 harg4 arg5 harg5 arg6 harg6 arg7 harg7 s.1 s.2.1 s.2.2, fun s => k0_part8 (F := F) arg0 harg0 arg1 harg1 arg2 harg2 arg3 harg3 arg4 harg4 arg5 harg5 arg6 harg6 arg7 harg7 s.1 s.2.1 s.2.2, fun s => k0_part9 (F := F) arg0 harg0 arg1 harg1 arg2 harg2 arg3 harg3 arg4 harg4 arg5 harg5 arg6 harg6 arg7 harg7 s.1 s.2.1 s.2.2, fun s => k0_part10 (F := F) arg0 harg0 arg1 harg1 arg2 harg2 arg3 harg3 arg4 harg4 arg5 harg5 arg6 harg6 arg7 harg7 s.1 s.2.1 s.2.2, fun s => k0_part11 (F := F) arg0 harg0 arg1 harg1 arg2 harg2 arg3 harg3 arg4 harg4 arg5 harg5 arg6 harg6 arg7 harg7 s.1 s.2.1 s.2.2, fun s => k0_part12 (F := F) arg0 harg0 arg1 harg1 arg2 harg2 arg3 harg3 arg4 harg4 arg5 harg5 arg6 harg6 arg7 harg7 s.1 s.2.1 s.2.2, fun s => k0_part13 (F := F) arg0 harg0 arg1 harg1 arg2 harg2 arg3 harg3 arg4 harg4 arg5 harg5 arg6 harg6 arg7 harg7 s.1 s.2.1 s.2.2, fun s => k0_part14 (F := F) arg0 harg0 arg1 harg1 arg2 harg2 arg3 harg3 arg4 harg4 arg5 harg5 arg6 harg6 arg7 harg7 s.1 s.2.1 s.2.2, fun s => k0_part15 (F := F) arg0 harg0 arg1 harg1 arg2 harg2 arg3 harg3 arg4 harg4 arg5 harg5 arg6 harg6 arg7 harg7 s.1 s.2.1 s.2.2, fun s => k0_part16 (F := F) arg0 harg0 arg1 harg1 arg2 harg2 arg3 harg3 arg4 harg4 arg5 harg5 arg6 harg6 arg7 harg7 s.1 s.2.1 s.2.2, fun s => k0_part17 (F := F) arg0 harg0 arg1 harg1 arg2 harg2 arg3 harg3 arg4 harg4 arg5 harg5 arg6 harg6 arg7 harg7 s.1 s.2.1 s.2.2, fun s => k0_part18 (F := F) arg0 harg0 arg1 harg1 arg2 harg2 arg3 harg3 arg4 harg4 arg5 harg5 arg6 harg6 arg7 harg7 s.1 s.2.1 s.2.2, fun s => k0_part19 (F := F) arg0 harg0 arg1 harg1 arg2 harg2 arg3 harg3 arg4 harg4 arg5 harg5 arg6 harg6 arg7 harg7 s.1 s.2.1 s.2.2, fun s => k0_part20 (F := F) arg0 harg0 arg1 harg1 arg2 harg2 arg3 harg3 arg4 harg4 arg5 harg5 arg6 harg6 arg7 harg7 s.1 s.2.1 s.2.2, fun s => k0_part21 (F := F) arg0 harg0 arg1 harg1 arg2 harg2 arg3 harg3 arg4 harg4 arg5 harg5 arg6 harg6 arg7 harg7 s.1 s.2.1 s.2.2, fun s => k0_part22 (F := F) arg0 harg0 arg1 harg1 arg2 harg2 arg3 harg3 arg4 harg4 arg5 harg5 arg6 harg6 arg7 harg7 s.1 s.2.1 s.2.2, fun s => k0_part23 (F := F) arg0 harg0 arg1 harg1 arg2 harg2 arg3 harg3 arg4 harg4 arg5 harg5 arg6 harg6 arg7 harg7 s.1 s.2.1 s.2.2, fun s => k0_part24 (F := F) arg0 harg0 arg1 harg1 arg2 harg2 arg3 harg3 arg4 harg4 arg5 harg5 arg6 harg6 arg7 harg7 s.1 s.2.1 s.2.2, fun s => k0_part25 (F := F) arg0 harg0 arg1 harg1 arg2 harg2 arg3 harg3 arg4 harg4 arg5 harg5 arg6 harg6 arg7 harg7 s.1 s.2.1 s.2.2, fun s => k0_part26 (F := F) arg0 harg0 arg1 harg1 arg2 harg2 arg3 harg3 arg4 harg4 arg5 harg5 arg6 harg6 arg7 harg7 s.1 s.2.1 s.2.2, fun s => k0_part27 (F := F) arg0 harg0 arg1 harg1 arg2 harg2 arg3 harg3 arg4 harg4 arg5 harg5 arg6 harg6 arg7 harg7 s.1 s.2.1 s.2.2, fun s => k0_part28 (F := F) arg0 harg0 arg1 harg1 arg2 harg2 arg3 harg3 arg4 harg4 arg5 harg5 arg6 harg6 arg7 harg7 s.1 s.2.1 s.2.2, fun s => k0_part29 (F := F) arg0 harg0 arg1 harg1 arg2 harg2 arg3 harg3 arg4 harg4 arg5 harg5 arg6 harg6 arg7 harg7 s.1 s.2.1 s.2.2]

set_option maxRecDepth 65536 in
/-- Every printed group is five rows, by definitional unfolding. -/
theorem printed_eq : printed (F := F) arg0 harg0 arg1 harg1 arg2 harg2 arg3 harg3 arg4 harg4 arg5 harg5 arg6 harg6 arg7 harg7 = fives arg7 25 3 (by decide) := by
  unfold printed
  iterate 25 refine congrArg₂ List.cons (funext fun s => rfl) ?_
  rfl

/-- A block's loads and mask and its first three rows, then `k`. -/
def head {α : Type} (v5 : IVec S1x128x128 1) (c0_i32 c1_i32 : BitVec 32) (k0_t1 : Fin k0_t1_loop.trips)
    (k : BitVec 32 → FVec F S32x128 .f32 → FVec F S32x128 .f32 → FVec F S32x128 .f32 → FVec F S32x128 .f32 → FVec F S32x128 .f32 → Carry F → Prog (TpuEff nD τ sig (Elt F) Λ₀ .tc) α) :
    Prog (TpuEff nD τ sig (Elt F) Λ₀ .tc) α := do
  let ⟨arg8, v7, v10, v13, v16, v19, v24, v31, v44, v49, v54⟩ ← k0_part3_skel (F := F) arg0 harg0 arg1 harg1 arg2 harg2 arg3 harg3 arg4 harg4 arg5 harg5 arg6 harg6 arg7 harg7 c0_i32 c1_i32 k0_t1
  let s ← k0_part4_skel (F := F) arg0 harg0 arg1 harg1 arg2 harg2 arg3 harg3 arg4 harg4 arg5 harg5 arg6 harg6 arg7 harg7 v5 k0_t1 v7 v24 v31 v44 v49 v54
  k arg8 v10 v13 v16 v19 v31 s

/-- The block's program, its printed groups of rows in a list. -/
def block (ps : List (Carry F → Prog (TpuEff nD τ sig (Elt F) Λ₀ .tc) (Carry F))) (v5 : IVec S1x128x128 1) (c0_i32 c1_i32 : BitVec 32) (k0_t1 : Fin k0_t1_loop.trips) :
    Prog (TpuEff nD τ sig (Elt F) Λ₀ .tc) (Σ' (v1106 : FVec F S32x128x1 .f32) (v1107 : FVec F S32x128x1 .f32) (v1108 : FVec F S32x128x1 .f32) (v1109 : FVec F S32x128x1 .f32) (v1110 : FVec F S32x128x1 .f32) (v1116 : BitVec 32), BitVec 32) :=
  head arg0 harg0 arg1 harg1 arg2 harg2 arg3 harg3 arg4 harg4 arg5 harg5 arg6 harg6 arg7 harg7 v5 c0_i32 c1_i32 k0_t1 fun arg8 v10 v13 v16 v19 v31 => seqs (afterRows arg0 harg0 arg1 harg1 arg2 harg2 arg3 harg3 arg4 harg4 arg5 harg5 arg6 harg6 arg7 harg7 v5 c0_i32 c1_i32 k0_t1 arg8 v10 v13 v16 v19 v31) ps

set_option maxRecDepth 65536 in
/-- The printed block is `block`, by definitional unfolding. -/
theorem block_eq (v5 : IVec S1x128x128 1) (c0_i32 c1_i32 : BitVec 32) (k0_t1 : Fin k0_t1_loop.trips) :
    k0_part30_skel (F := F) arg0 harg0 arg1 harg1 arg2 harg2 arg3 harg3 arg4 harg4 arg5 harg5 arg6 harg6 arg7 harg7 v5 c0_i32 c1_i32 k0_t1 = block arg0 harg0 arg1 harg1 arg2 harg2 arg3 harg3 arg4 harg4 arg5 harg5 arg6 harg6 arg7 harg7 (printed arg0 harg0 arg1 harg1 arg2 harg2 arg3 harg3 arg4 harg4 arg5 harg5 arg6 harg6 arg7 harg7) v5 c0_i32 c1_i32 k0_t1 := rfl

end Part

/-! ## The values -/

/-- The block of `x` that trip `t` reads. -/
def W1 (t : Fin k0_t1_loop.trips) (x : Vec F S32x5120 .f32) : Vec F S32x128 .f32 :=
  VecWindow.window (α := Elt F .f32) (s := S32x5120) x (k0_off1 t) S32x128.size (k0_off1_inb t)
/-- The later block of `x` that trip `j` of the inner loop reads. -/
def W2 (t : Fin k0_t1_loop.trips) (j : Fin (k0_t2_loop t).trips) (x : Vec F S32x5120 .f32) : Vec F S32x128 .f32 :=
  VecWindow.window (α := Elt F .f32) (s := S32x5120) x (k0_off2 t j) S32x128.size (k0_off2_inb t j)

/-- What one block hands to the later ones: its boxes as columns, and its areas, infinite where a box suppresses nothing. -/
abbrev Cols (F : FTy → Type) [FloatOps F] : Type :=
  Σ' (_ : FVec F S32x128x1 .f32) (_ : FVec F S32x128x1 .f32) (_ : FVec F S32x128x1 .f32) (_ : FVec F S32x128x1 .f32), FVec F S32x128x1 .f32

/-- One later block filtered. -/
def later (X0 X1 X2 X3 X4 : Vec F S32x5120 .f32) (g : Cols F) (t : Fin k0_t1_loop.trips) (j : Fin (k0_t2_loop t).trips) (x : Vec F S32x5120 .f32) : Vec F S32x5120 .f32 :=
  VecWindow.put (α := Elt F .f32) (s := S32x5120) x (k0_off2 t j) S32x128.size
    (k0_pay102 (k0_pay4 g.1 g.2.1 g.2.2.1 g.2.2.2.1 g.2.2.2.2 (W2 t j X0) (W2 t j X1) (W2 t j X2) (W2 t j X3) (W2 t j X4)) (k0_pay5 (W2 t j x)) (Scalar.ofBits .f32 0x00000000#32))

/-- The first `n` later blocks filtered. -/
def laters (X0 X1 X2 X3 X4 : Vec F S32x5120 .f32) (g : Cols F) (t : Fin k0_t1_loop.trips) (x : Vec F S32x5120 .f32) : ℕ → Vec F S32x5120 .f32
  | 0 => x
  | n + 1 => if h : n < (k0_t2_loop t).trips then later X0 X1 X2 X3 X4 g t ⟨n, h⟩ (laters X0 X1 X2 X3 X4 g t x n) else laters X0 X1 X2 X3 X4 g t x n

theorem laters_succ (X0 X1 X2 X3 X4 : Vec F S32x5120 .f32) (g : Cols F) (t : Fin k0_t1_loop.trips) (x : Vec F S32x5120 .f32) (n : Fin (k0_t2_loop t).trips) :
    laters X0 X1 X2 X3 X4 g t x (n.val + 1) = later X0 X1 X2 X3 X4 g t n (laters X0 X1 X2 X3 X4 g t x n.val) := dif_pos n.isLt

/-- The mask of a block. -/
def maskOf (X0 X1 X2 X3 X4 X5 : Vec F S32x5120 .f32) (t : Fin k0_t1_loop.trips) : FVec F S32x128x128 .f32 :=
  k0_pay17 k0_pay2 (k0_pay12 (W1 t X4)) (k0_pay13 (W1 t X4) (W1 t X5)) (k0_pay14 (W1 t X0) (W1 t X2)) (k0_pay15 (W1 t X3)) (k0_pay16 (W1 t X1))

/-- The carry after the first three rows of a block. -/
def carry3 (M : FVec F S32x128x128 .f32) (b : Vec F S32x128 .f32) : Carry F :=
  ⟨k0_pay18 b (rowAt M 0 (by decide)) (rowAt M 1 (by decide)), k0_pay19 (rowAt M 2 (by decide)), k0_pay20 b (rowAt M 0 (by decide)) (rowAt M 1 (by decide))⟩

/-- The carry of a block after its 128 rows were taken, from keep entries `x`: the last row still to be applied. -/
def carryOf (X0 X1 X2 X3 X4 X5 : Vec F S32x5120 .f32) (t : Fin k0_t1_loop.trips) (x : Vec F S32x5120 .f32) : Carry F :=
  rows (maskOf X0 X1 X2 X3 X4 X5 t) 125 3 (by decide) (carry3 (maskOf X0 X1 X2 X3 X4 X5 t) (W1 t x))

/-- The columns handed to the later blocks. -/
def colsOf (X0 X1 X2 X3 X4 X5 : Vec F S32x5120 .f32) (t : Fin k0_t1_loop.trips) (s : Carry F) : Cols F :=
  ⟨k0_pay97 (k0_pay8 (W1 t X0)), k0_pay98 (k0_pay9 (W1 t X1)), k0_pay99 (k0_pay10 (W1 t X2)), k0_pay100 (k0_pay11 (W1 t X3)),
    k0_pay101 (k0_pay13 (W1 t X4) (W1 t X5)) s.1 s.2.1 s.2.2⟩

/-- One trip of the outer loop: the block's own chain, then every later block. -/
def outer (X0 X1 X2 X3 X4 X5 : Vec F S32x5120 .f32) (t : Fin k0_t1_loop.trips) (x : Vec F S32x5120 .f32) : Vec F S32x5120 .f32 :=
  let s := carryOf X0 X1 X2 X3 X4 X5 t x
  laters X0 X1 X2 X3 X4 (colsOf X0 X1 X2 X3 X4 X5 t s) t
    (VecWindow.put (α := Elt F .f32) (s := S32x5120) x (k0_off1 t) S32x128.size (k0_pay96 s.1 s.2.1 s.2.2)) (k0_t2_loop t).trips

/-- The first `n` trips of the outer loop. -/
def outers (X0 X1 X2 X3 X4 X5 : Vec F S32x5120 .f32) (x : Vec F S32x5120 .f32) : ℕ → Vec F S32x5120 .f32
  | 0 => x
  | n + 1 => if h : n < k0_t1_loop.trips then outer X0 X1 X2 X3 X4 X5 ⟨n, h⟩ (outers X0 X1 X2 X3 X4 X5 x n) else outers X0 X1 X2 X3 X4 X5 x n

theorem outers_succ (X0 X1 X2 X3 X4 X5 : Vec F S32x5120 .f32) (x : Vec F S32x5120 .f32) (n : Fin k0_t1_loop.trips) :
    outers X0 X1 X2 X3 X4 X5 x (n.val + 1) = outer X0 X1 X2 X3 X4 X5 n (outers X0 X1 X2 X3 X4 X5 x n.val) := dif_pos n.isLt

/-- What the kernel leaves in its result. -/
def keepOf (X0 X1 X2 X3 X4 X5 : Vec F S32x5120 .f32) : Vec F S32x5120 .f32 :=
  outers X0 X1 X2 X3 X4 X5 (k0_pay1 (F := F)) k0_t1_loop.trips

/-! ## The loops -/

section Loops
variable (𝒱 : Variants) (c : Dev nD) (bd : Option 𝒱.V) (E : Set ℕ) (arg0 : Memref sig .tc .vmem S32x5120 .f32) (harg0 : arg0.IsWhole) (arg1 : Memref sig .tc .vmem S32x5120 .f32) (harg1 : arg1.IsWhole) (arg2 : Memref sig .tc .vmem S32x5120 .f32) (harg2 : arg2.IsWhole) (arg3 : Memref sig .tc .vmem S32x5120 .f32) (harg3 : arg3.IsWhole) (arg4 : Memref sig .tc .vmem S32x5120 .f32) (harg4 : arg4.IsWhole) (arg5 : Memref sig .tc .vmem S32x5120 .f32) (harg5 : arg5.IsWhole) (arg6 : Memref sig .tc .vmem S32x5120 .f32) (harg6 : arg6.IsWhole) (arg7 : Memref sig .tc .vmem S32x128x128 .f32) (harg7 : arg7.IsWhole)

/-- A memref held at contents that read `X` is held at the representative of `X`. -/
theorem held {s : Shape} (m : Memref sig .tc .vmem s .f32) (g : Buf (Elt F) (m.view.loc (c : Thread nD τ))) (X : s.Idx → Elt F .f32)
    (h : m.view.read (Elt F) g = X) :
    (m.view.loc (c : Thread nD τ) ↦[m.view.set]{fullShare} g : sProp 𝕄) ⊢ m.view.loc (c : Thread nD τ) ↦[m.view.set]{fullShare} m.view.rep X :=
  pointsTo_rep_of_read (c : Thread nD τ) m g fullShare X h

/-- One trip of the inner loop. -/
theorem wp_later (v5 : IVec S1x128x128 1) (c0_i32 c1_i32 : BitVec 32) (t : Fin k0_t1_loop.trips) (v10 v13 v16 v19 v31 b p o : FVec F S32x128 .f32) (v1111 : BitVec 32)
    (X0 X1 X2 X3 X4 x : Vec F S32x5120 .f32) (j : Fin (k0_t2_loop t).trips) (u : Unit) :
      (iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (∃ f, (arg6.view.loc (c : Thread nD τ) ↦[arg6.view.set]{fullShare} f) ∗ ⌜arg6.view.read (Elt F) f = x⌝)) : sProp 𝕄)
      ⊢ wp Idealize.ShloMosaic.frame (wpE (defs₀ (F := F)) 𝒱 (c : Thread nD τ) bd) E (k0_t2_body (F := F) arg0 harg0 arg1 harg1 arg2 harg2 arg3 harg3 arg4 harg4 arg5 harg5 arg6 harg6 arg7 harg7 v5 c0_i32 c1_i32 t v10 v13 v16 v19 v31 b p o v1111 j u)
          (fun _ => iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (∃ f, (arg6.view.loc (c : Thread nD τ) ↦[arg6.view.set]{fullShare} f) ∗ ⌜arg6.view.read (Elt F) f = later X0 X1 X2 X3 X4 ⟨k0_pay97 v10, k0_pay98 v13, k0_pay99 v16, k0_pay100 v19, k0_pay101 v31 b p o⟩ t j x⌝))) := by
  unfold k0_t2_body
  iintro ⟨H0, H1, H2, H3, H4, %f, H6, %hf⟩
  sl_exec
  sl_step
  isplitl [H0]; · iexact H0
  isplitl [H1]; · iexact H1
  isplitl [H2]; · iexact H2
  isplitl [H3]; · iexact H3
  isplitl [H4]; · iexact H4
  iexists _; isplitl [H6]; · iexact H6
  ipureintro
  rw [View.read_writes_cons_put _ _ _ _ _ rfl, View.writes_nil, hf]
  unfold wp_later.sl.r wp_later.sl.r_1
  rw [View.readAt_unit arg6.view f _ rfl (k0_off2_inb t j), hf]
  rw [View.readAt_rep_unit arg0.view X0 _ rfl (k0_off2_inb t j), View.readAt_rep_unit arg1.view X1 _ rfl (k0_off2_inb t j),
    View.readAt_rep_unit arg2.view X2 _ rfl (k0_off2_inb t j), View.readAt_rep_unit arg3.view X3 _ rfl (k0_off2_inb t j),
    View.readAt_rep_unit arg4.view X4 _ rfl (k0_off2_inb t j)]
  rfl

set_option warn.classDefReducibility false in
/-- The inner loop by its invariant: the result holds the first `k` later blocks filtered. -/
@[sl_loop] def loopLater (v5 : IVec S1x128x128 1) (c0_i32 c1_i32 : BitVec 32) (t : Fin k0_t1_loop.trips) (v10 v13 v16 v19 v31 b p o : FVec F S32x128 .f32) (v1111 : BitVec 32)
    (X0 X1 X2 X3 X4 : Vec F S32x5120 .f32) (G : Buf (Elt F) (arg6.view.loc (c : Thread nD τ))) :
    LoopInvTy_k0_t2 (F := F) Unit ℕ (UR sig nD τ) ℕ 𝒱 c bd E arg0 harg0 arg1 harg1 arg2 harg2 arg3 harg3 arg4 harg4 arg5 harg5 arg6 harg6 arg7 harg7 v5 c0_i32 c1_i32 t v10 v13 v16 v19 v31 b p o v1111 where
  inv k _ := iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (∃ f, (arg6.view.loc (c : Thread nD τ) ↦[arg6.view.set]{fullShare} f) ∗ ⌜arg6.view.read (Elt F) f = laters X0 X1 X2 X3 X4 ⟨k0_pay97 v10, k0_pay98 v13, k0_pay99 v16, k0_pay100 v19, k0_pay101 v31 b p o⟩ t (arg6.view.read (Elt F) G) k⌝))
  step k u := by
    rw [laters_succ]
    exact wp_later 𝒱 c bd E arg0 harg0 arg1 harg1 arg2 harg2 arg3 harg3 arg4 harg4 arg5 harg5 arg6 harg6 arg7 harg7 v5 c0_i32 c1_i32 t v10 v13 v16 v19 v31 b p o v1111 X0 X1 X2 X3 X4 _ k u

theorem no_trips (t : Fin k0_t1_loop.trips) : Scf.trips (k0_t3_loop t).lb (k0_t3_loop t).ub (k0_t3_loop t).st = 0 := by
  revert t; decide

/-- The loads, the mask and the first three rows of a block. -/
theorem wp_head {α : Type} (X0 X1 X2 X3 X4 X5 x : Vec F S32x5120 .f32) (t : Fin k0_t1_loop.trips) (f : Buf (Elt F) (arg6.view.loc (c : Thread nD τ)))
    (hf : arg6.view.read (Elt F) f = x)
    (k : BitVec 32 → FVec F S32x128 .f32 → FVec F S32x128 .f32 → FVec F S32x128 .f32 → FVec F S32x128 .f32 → FVec F S32x128 .f32 → Carry F → Prog (TpuEff nD τ sig (Elt F) Λ₀ .tc) α)
    (Q : α → sProp 𝕄) :
      (iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} f) ∗ (∃ f, (arg7.view.loc (c : Thread nD τ) ↦[arg7.view.set]{fullShare} f))
        ∗ (iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} f) ∗ (arg7.view.loc (c : Thread nD τ) ↦[arg7.view.set]{fullShare} arg7.view.rep (maskOf X0 X1 X2 X3 X4 X5 t)))
            -∗ wp Idealize.ShloMosaic.frame (wpE (defs₀ (F := F)) 𝒱 (c : Thread nD τ) bd) E
              (k (Scf.iv 0#32 1#32 t) (k0_pay8 (W1 t X0)) (k0_pay9 (W1 t X1)) (k0_pay10 (W1 t X2)) (k0_pay11 (W1 t X3)) (k0_pay13 (W1 t X4) (W1 t X5)) (carry3 (maskOf X0 X1 X2 X3 X4 X5 t) (W1 t x))) Q)) : sProp 𝕄)
      ⊢ wp Idealize.ShloMosaic.frame (wpE (defs₀ (F := F)) 𝒱 (c : Thread nD τ) bd) E (head (F := F) arg0 harg0 arg1 harg1 arg2 harg2 arg3 harg3 arg4 harg4 arg5 harg5 arg6 harg6 arg7 harg7 k0_pay2 0#32 1#32 t k) Q := by
  unfold head
  iintro ⟨H0, H1, H2, H3, H4, H5, H6, ⟨%f7, H7⟩, Hk⟩
  sl_exec
  unfold wp_head.sl.r wp_head.sl.r_1 wp_head.sl.r_2 wp_head.sl.r_3 wp_head.sl.r_5
    wp_head.sl.r_9 wp_head.sl.r_10 wp_head.sl.r_11 wp_head.sl.v77 wp_head.sl.v85 wp_head.sl.v93 wp_head.sl.H7_1
  unfold wp_head.sl.r_4 wp_head.sl.r_5 wp_head.sl.r_6 wp_head.sl.r_7 wp_head.sl.r_8 wp_head.sl.arg8
  rw [View.readAt_rep_unit arg0.view X0 _ rfl (k0_off1_inb t), View.readAt_rep_unit arg1.view X1 _ rfl (k0_off1_inb t),
    View.readAt_rep_unit arg2.view X2 _ rfl (k0_off1_inb t), View.readAt_rep_unit arg3.view X3 _ rfl (k0_off1_inb t),
    View.readAt_rep_unit arg4.view X4 _ rfl (k0_off1_inb t), View.readAt_rep_unit arg5.view X5 _ rfl (k0_off1_inb t),
    View.readAt_unit arg6.view f _ rfl (k0_off1_inb t), hf]
  rw [readCov_row arg7.view _ 0 (by decide), readCov_row arg7.view _ 1 (by decide), readCov_row arg7.view _ 2 (by decide)]
  ihave H7 := (held c arg7 _ (maskOf X0 X1 X2 X3 X4 X5 t) (by rw [View.read_writes_full]; rfl)) $$ H7
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One trip of the outer loop. -/
theorem wp_outer (X0 X1 X2 X3 X4 X5 x : Vec F S32x5120 .f32) (t : Fin k0_t1_loop.trips) (u : Unit) :
      (iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (∃ f, (arg6.view.loc (c : Thread nD τ) ↦[arg6.view.set]{fullShare} f) ∗ ⌜arg6.view.read (Elt F) f = x⌝) ∗ (∃ f, (arg7.view.loc (c : Thread nD τ) ↦[arg7.view.set]{fullShare} f))) : sProp 𝕄)
      ⊢ wp Idealize.ShloMosaic.frame (wpE (defs₀ (F := F)) 𝒱 (c : Thread nD τ) bd) E (k0_t1_body (F := F) arg0 harg0 arg1 harg1 arg2 harg2 arg3 harg3 arg4 harg4 arg5 harg5 arg6 harg6 arg7 harg7 t u)
          (fun _ => iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (∃ f, (arg6.view.loc (c : Thread nD τ) ↦[arg6.view.set]{fullShare} f) ∗ ⌜arg6.view.read (Elt F) f = outer X0 X1 X2 X3 X4 X5 t x⌝) ∗ (∃ f, (arg7.view.loc (c : Thread nD τ) ↦[arg7.view.set]{fullShare} f)))) := by
  have htr := no_trips t
  unfold k0_t1_body
  rw [k0_part30_eq_skeleton, block_eq, printed_eq]
  unfold block
  iintro ⟨H0, H1, H2, H3, H4, H5, ⟨%f, H6, %hf⟩, H7⟩
  simp only [wp_bind]
  iapply (wp_head 𝒱 c bd E arg0 harg0 arg1 harg1 arg2 harg2 arg3 harg3 arg4 harg4 arg5 harg5 arg6 harg6 arg7 harg7 X0 X1 X2 X3 X4 X5 x t f hf _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply (wp_fives 𝒱 c bd arg7 (maskOf X0 X1 X2 X3 X4 X5 t) E _ _ 25 3 _ _)
  isplitl [H7]; · iexact H7
  iintro H7
  unfold afterRows
  sl_exec
  rw [htr]
  sl_step
  isplitl [H0]; · iexact H0
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro
    refine Eq.trans hL6 ?_
    rw [View.read_writes_cons_put _ _ _ _ _ rfl, View.writes_nil, hf]
    rfl
  · iexists _; iexact H7

end Loops

end Cert.Proof.KernelIdeal

end
-- ==== Proof.Run.lean ====
/- The run of `KernelIdeal`'s program: the kernel body as one triple, the pipeline's proof data (the result array ends at
   `keepOf` of the six inputs), the whole program's run, and its frame. -/
module

public import proofs.«01_k».proof.Proof.Body
public import Idealize.ShloMosaic.Lib.Claim
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Outer
variable (𝒱 : Variants) (c : Dev nD) (bd : Option 𝒱.V) (E : Set ℕ) (arg0 : Memref sig .tc .vmem S32x5120 .f32) (harg0 : arg0.IsWhole) (arg1 : Memref sig .tc .vmem S32x5120 .f32) (harg1 : arg1.IsWhole) (arg2 : Memref sig .tc .vmem S32x5120 .f32) (harg2 : arg2.IsWhole) (arg3 : Memref sig .tc .vmem S32x5120 .f32) (harg3 : arg3.IsWhole) (arg4 : Memref sig .tc .vmem S32x5120 .f32) (harg4 : arg4.IsWhole) (arg5 : Memref sig .tc .vmem S32x5120 .f32) (harg5 : arg5.IsWhole) (arg6 : Memref sig .tc .vmem S32x5120 .f32) (harg6 : arg6.IsWhole) (arg7 : Memref sig .tc .vmem S32x128x128 .f32) (harg7 : arg7.IsWhole)

set_option warn.classDefReducibility false in
/-- The outer loop by its invariant: the result holds what the first `k` blocks leave. -/
@[sl_loop] def loopOuter (X0 X1 X2 X3 X4 X5 : Vec F S32x5120 .f32) (G : Buf (Elt F) (arg6.view.loc (c : Thread nD τ))) :
    LoopInvTy_k0_t1 (F := F) Unit ℕ (UR sig nD τ) ℕ 𝒱 c bd E arg0 harg0 arg1 harg1 arg2 harg2 arg3 harg3 arg4 harg4 arg5 harg5 arg6 harg6 arg7 harg7 where
  inv k _ := iprop((arg0.view.loc (c : Thread nD τ) ↦[arg0.view.set]{fullShare} arg0.view.rep X0) ∗ (arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (∃ f, (arg6.view.loc (c : Thread nD τ) ↦[arg6.view.set]{fullShare} f) ∗ ⌜arg6.view.read (Elt F) f = outers X0 X1 X2 X3 X4 X5 (arg6.view.read (Elt F) G) k⌝) ∗ (∃ f, (arg7.view.loc (c : Thread nD τ) ↦[arg7.view.set]{fullShare} f)))
  step k u := by
    rw [outers_succ]
    exact wp_outer 𝒱 c bd E arg0 harg0 arg1 harg1 arg2 harg2 arg3 harg3 arg4 harg4 arg5 harg5 arg6 harg6 arg7 harg7 X0 X1 X2 X3 X4 X5 _ k u

/-- The body: the inputs are read only, the result ends at `keepOf` of them. -/
theorem wp_body (X0 X1 X2 X3 X4 X5 : Vec F S32x5120 .f32) (K : PUnit → sProp 𝕄) :
      (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ (∃ d, owns (c : Thread nD τ) arg6 fullShare d) ∗ (∃ d, owns (c : Thread nD τ) arg7 fullShare d)
        ∗ (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (keepOf X0 X1 X2 X3 X4 X5) ∗ (∃ d, owns (c : Thread nD τ) arg7 fullShare d)) -∗ K ⟨⟩)) : sProp 𝕄)
      ⊢ wp Idealize.ShloMosaic.frame (wpE (defs₀ (F := F)) 𝒱 (c : Thread nD τ) bd) E (cc0__suppress_kernel (F := F) arg0 harg0 arg1 harg1 arg2 harg2 arg3 harg3 arg4 harg4 arg5 harg5 arg6 harg6 arg7 harg7) K := by
  rw [cc0__suppress_kernel_eq_skeleton]; unfold cc0__suppress_kernel_skel
  simp only [owns_eq_rep]
  iintro ⟨H0, H1, H2, H3, H4, H5, ⟨%d6, H6⟩, ⟨%d7, H7⟩, Hk⟩
  sl_exec
  have hread : arg6.view.read (Elt F) (arg6.view.writes (Elt F) arg6.view.junk wp_body.sl.H6_1) = k0_pay1 := by
    unfold wp_body.sl.H6_1; rw [View.read_writes_full]
  rw [hread] at hL7
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iapply (held c arg6 fL0 (keepOf X0 X1 X2 X3 X4 X5) hL7); iexact H6
  iexists (arg7.view.read (Elt F) fL1)
  iapply (pointsTo_rep_of_read (c : Thread nD τ) arg7 fL1 fullShare _ rfl); iexact H7

end Outer

variable (m : (ℓ : Loc nD τ sig) → Buf (Elt F) ℓ) (ρ : Dev nD → PrngReg)

/-- The result array as a function of the six input arrays' blocks at point `t`. -/
def result (c : Dev nD) (t : Fin cfg0.N) : Vec F S32x5120 .f32 :=
  keepOf (iblk m c 0 t) (iblk m c 1 t) (iblk m c 2 t) (iblk m c 3 t) (iblk m c 4 t) (iblk m c 5 t)

/-- The pipeline's proof data: the inputs stay, the result is `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => result m c t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = result m c t := by dsimp only [dats]
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

/-- The pipeline's invariant: the scratch at some contents, and the generator's register. -/
theorem invariant_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The body at point `t`. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  rw [show (dats m 0 c).Φ t.castSucc = Pipeline.ΦA spec0 c from rfl, invariant_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (wp_body Variants.none c none Set.univ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
set_option maxHeartbeats 800000 in
/-- The whole program's run, with every semaphore counter at zero at the end. -/
theorem run_quiescent : θ_run defs (onTc (τ := τ) (main (F := F))) (s₀ m ρ) (fun r =>
    Pipeline.FramePost cfgs (dats m) 0 (Pipeline.afterTail₀ cfgs (dats m) 0 (V0 m) [hostOps1, hostOps1_1, hostOps1_2, hostOps1_3, hostOps1_4]) r
      ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The run without the counters. -/
theorem run : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  (θ_run defs _ _).mono (fun _ h => h.1) (run_quiescent m ρ)

/-- The frame: the arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) (run m ρ)) ((θ_run defs _ _).mono (fun _ h => h.2) (run_quiescent m ρ))

end Cert.Proof.KernelIdeal

end
-- ==== Proof.Ref.lean ====
/- The reference's run: the arguments end as launched, no counter is left, and a buffer that the loop does not write is
   after it what it was before. -/
module

public import proofs.«01_k».proof.Defs
public import proofs.«01_k».proof.Proof.Gen.ReferenceIdeal.Run
public import Idealize.ShloMosaic.Lib.Quiescent
public import Idealize.ShloMosaic.Lib.Claim

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The buffers that one trip of the loop writes, its condition's included. -/
abbrev loopW : List (Ref sig .tc) :=
  condOps_W ++ (while0Ops0_W ++ (while0Ops0_1_W ++ (while0Ops0_2_W ++ (while0Ops0_3_W ++ (while0Ops0_4_W ++ (while0Ops0_5_W ++ while0Ops0_6_W))))))

/-- A buffer that the loop does not write is before every trip as at the loop's entry. -/
theorem atK_keeps (b : Ref sig .tc) (hb : b ∉ loopW) (c : Dev nD) :
    ∀ k, atK m k c (Proc.devRef .tc b) = entryContents preI m c (Proc.devRef .tc b)
  | 0 => rfl
  | k + 1 => by
    simp only [loopW, List.mem_append, not_or] at hb
    obtain ⟨hc, h0, h1, h2, h3, h4, h5, h6⟩ := hb
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact atK_keeps b (by simp only [loopW, List.mem_append, not_or]; exact ⟨hc, h0, h1, h2, h3, h4, h5, h6⟩) c k

/-- The buffers that the stretches before the loop write. -/
abbrev preW : List (Ref sig .tc) :=
  hostOps0_W ++ (hostOps0_1_W ++ (hostOps0_2_W ++ (hostOps0_3_W ++ (hostOps0_4_W ++ (hostOps0_5_W ++ (hostOps0_6_W ++ (hostOps0_7_W ++
    (hostOps0_8_W ++ (hostOps0_9_W ++ (hostOps0_10_W ++ hostOps0_11_W))))))))))

/-- A buffer that they do not write is at the loop's entry as launched. -/
theorem entry_keeps (b : Ref sig .tc) (hb : b ∉ preW) (c : Dev nD) :
    entryContents preI m c (Proc.devRef .tc b) = m ((c.tc : Thread nD τ).loc b) := by
  simp only [preW, List.mem_append, not_or] at hb
  obtain ⟨h0, h1, h2, h3, h4, h5, h6, h7, h8, h9, h10, h11⟩ := hb
  simp only [entryContents, afterL_cons, afterL_nil]
  rw [after_of_writes_sub hostOps0_11 _ hostOps0_11_writes h11, after_of_writes_sub hostOps0_10 _ hostOps0_10_writes h10,
    after_of_writes_sub hostOps0_9 _ hostOps0_9_writes h9, after_of_writes_sub hostOps0_8 _ hostOps0_8_writes h8,
    after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- The stretches after the loop leave an argument alone. -/
theorem post_arg (b : Ref sig .tc) (hb : b = main_arg0 ∨ b = main_arg1) (V : Valuation τ sig (Elt F)) :
    afterL postI V (Proc.devRef .tc b) = V (Proc.devRef .tc b) := by
  rw [afterL_eq_after_flatten]
  refine after_of_forall_not_mem _ _ (List.forall_iff_forall_mem.mp ?_)
  rcases hb with rfl | rfl <;>
  · simp only [hostOps0_12, hostOps0_13, hostOps0_14, List.flatten_cons, List.flatten_nil, List.append_nil, List.cons_append,
      List.nil_append, List.Forall, nullary_writes, unary_writes, binary_writes, ternary_writes, quaternary_writes, reshape_writes, binaryIndexed_writes, nary_writes, unaryIndexed_writes, Finset.mem_singleton]
    repeat' apply And.intro
    all_goals exact devRef_ne_of_ne (by decide)

/-- An argument ends as launched. -/
theorem final_arg (b : Ref sig .tc) (hb : b = main_arg0 ∨ b = main_arg1) (c : Dev nD) :
    finalContents condOps preI bodyI postI 5000 m c (Proc.devRef .tc b) = m ((c.tc : Thread nD τ).loc b) := by
  rw [finalContents, post_arg b hb, after_of_writes_sub condOps _ condOps_writes (by rcases hb with rfl | rfl <;> decide +kernel),
    show atTrip condOps bodyI (entryContents preI m) 5000 c (Proc.devRef .tc b) = entryContents preI m c (Proc.devRef .tc b) from
      atK_keeps m b (by rcases hb with rfl | rfl <;> decide +kernel) c 5000]
  exact entry_keeps m b (by rcases hb with rfl | rfl <;> decide +kernel) c

/-- The reference's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h c main_arg0 (by decide)).trans (final_arg m _ (.inl rfl) c),
    (h c main_arg1 (by decide)).trans (final_arg m _ (.inr rfl) c)⟩, sem_eq_zero_of_no_sems rfl r.2⟩) (run_fold m ρ)

end Cert.Proof.ReferenceIdeal

end
-- ==== Proof.Nms.lean ====
/- Greedy suppression: the arithmetic and the recursion, apart from either program. -/
module

public import Idealize.ShloMosaic.PureOps.Ideal

@[expose] public section

noncomputable section

namespace Cert.Nms
open Idealize.ShloMosaic

/-- The threshold: the f32 word of 0.45. -/
def thr : EReal := ((7549747 / 16777216 : ℝ) : EReal)
/-- The folded threshold, `thr / (1 + thr)`. -/
def cf : EReal := ((7549747 / 24326963 : ℝ) : EReal)

/-- The overlap of two intervals, negative where they are apart. -/
def ovl (l h : ℕ → EReal) (i j : ℕ) : EReal := min (h i) (h j) - max (l i) (l j)

/-- The folded area of a box that may suppress; infinite for one that may not. -/
def gate (a s : EReal) : EReal := if 0 < s then cf * a else ⊤

/-- Box `i` hits box `j`, in the folded form: the intersection exceeds the folded threshold times the sum of the areas. -/
def Hits (x1 y1 x2 y2 a s : ℕ → EReal) (i j : ℕ) : Prop :=
  0 < max (ovl x1 x2 i j) 0 * ovl y1 y2 i j - (gate (a i) (s i) + cf * a j)

/-- The quotient form: intersection over union above the threshold. -/
def ratio (q u : EReal) : EReal := if 0 < u then Ideal.div q u else 0

theorem cf_pos : 0 < cf := by unfold cf; exact_mod_cast (by norm_num : (0 : ℝ) < 7549747 / 24326963)

theorem cf_mul_top : cf * ⊤ = ⊤ := by unfold cf; exact EReal.coe_mul_top_of_pos (by norm_num)

theorem cf_mul_nonneg {b : EReal} (hb : 0 ≤ b) : 0 ≤ cf * b := mul_nonneg cf_pos.le hb

theorem top_add_of_nonneg {b : EReal} (hb : 0 ≤ b) : ⊤ + b = ⊤ := EReal.top_add_of_ne_bot (fun h => by simp [h] at hb)

theorem not_pos_of_top (q : EReal) {b : EReal} (hb : 0 ≤ b) : ¬ 0 < q - (⊤ + b) := by
  rw [top_add_of_nonneg hb, EReal.sub_top]; exact not_lt_bot

/-- The two tests agree on real areas and a real intersection inside both boxes. -/
theorem real_iff (q a b : ℝ) (hq : 0 ≤ q) (ha : q ≤ a) (hb : q ≤ b) :
    (0 < (q : EReal) - (cf * a + cf * b)) ↔ thr < ratio q ((a : EReal) + b - q) := by
  have e1 : (q : EReal) - (cf * a + cf * b) = ((q - (7549747 / 24326963 * a + 7549747 / 24326963 * b) : ℝ) : EReal) := by
    unfold cf; push_cast; rfl
  have e2 : (a : EReal) + b - q = ((a + b - q : ℝ) : EReal) := by push_cast; rfl
  rw [e1, e2]
  unfold ratio thr
  by_cases hu : 0 < a + b - q
  · rw [if_pos (by exact_mod_cast hu), Ideal.div_coe hu.ne', ← EReal.coe_mul]
    rw [EReal.coe_pos, EReal.coe_lt_coe_iff, mul_one_div, lt_div_iff₀ hu]
    constructor <;> intro h <;> linarith
  · rw [if_neg (by exact_mod_cast hu)]
    have : q = 0 := by linarith
    have : a = 0 := by linarith
    have : b = 0 := by linarith
    subst q a b
    constructor
    · intro h; exact absurd h (by norm_num)
    · intro h; exact absurd (EReal.coe_lt_coe_iff.1 (by simpa using h) : (7549747 / 16777216 : ℝ) < 0) (by norm_num)

theorem not_thr_lt_zero : ¬ thr < 0 := by
  unfold thr; intro h; exact absurd (EReal.coe_lt_coe_iff.1 (by simpa using h) : (7549747 / 16777216 : ℝ) < 0) (by norm_num)

theorem ratio_zero (u : EReal) : ratio 0 u = 0 := by
  unfold ratio
  split_ifs with h
  · rw [Ideal.div, if_neg h.ne', zero_mul]
  · rfl

/-- An infinite union hides every intersection. -/
theorem ratio_top (q : EReal) (h : 0 ≤ q) : ratio q (⊤ - q) = 0 := by
  induction q with
  | bot => simp at h
  | top => simp [ratio]
  | coe r => simp [ratio, Ideal.div]

/-- The two tests agree, on any extended reals. -/
theorem test_iff (w v a b s : EReal) (hw : 0 ≤ w) (ha : w * max v 0 ≤ a) (hb : w * max v 0 ≤ b) :
    (0 < w * v - (gate a s + cf * b)) ↔ (thr < ratio (w * max v 0) (a + b - w * max v 0) ∧ 0 < s) := by
  have hq : 0 ≤ w * max v 0 := mul_nonneg hw (le_max_right _ _)
  have ha0 := hq.trans ha
  have hb0 := hq.trans hb
  unfold gate
  by_cases hs : 0 < s
  · rw [if_pos hs, and_iff_left hs]
    have hA : a = ⊤ ∨ ∃ r : ℝ, a = r := by
      induction a with
      | bot => simp at ha0
      | top => exact .inl rfl
      | coe r => exact .inr ⟨r, rfl⟩
    have hB : b = ⊤ ∨ ∃ r : ℝ, b = r := by
      induction b with
      | bot => simp at hb0
      | top => exact .inl rfl
      | coe r => exact .inr ⟨r, rfl⟩
    rcases hA with rfl | ⟨a, rfl⟩
    · refine iff_of_false ?_ ?_
      · rw [cf_mul_top]; exact not_pos_of_top _ (cf_mul_nonneg hb0)
      · rw [top_add_of_nonneg hb0, ratio_top _ hq]; exact not_thr_lt_zero
    rcases hB with rfl | ⟨b, rfl⟩
    · refine iff_of_false ?_ ?_
      · rw [cf_mul_top, add_comm]; exact not_pos_of_top _ (cf_mul_nonneg ha0)
      · rw [add_comm, top_add_of_nonneg ha0, ratio_top _ hq]; exact not_thr_lt_zero
    rcases le_total 0 v with hv | hv
    · rw [max_eq_left hv] at *
      obtain ⟨q, hr⟩ : ∃ q : ℝ, w * v = q := by
        generalize w * v = z at *
        induction z with
        | bot => simp at hq
        | top => simp at ha
        | coe r => exact ⟨r, rfl⟩
      rw [hr] at hq ha hb ⊢
      exact real_iff q a b (by exact_mod_cast hq) (by exact_mod_cast ha) (by exact_mod_cast hb)
    · rw [max_eq_right hv, mul_zero, ratio_zero]
      refine iff_of_false ?_ not_thr_lt_zero
      rw [not_lt]
      have h1 : w * v ≤ 0 := mul_nonpos_of_nonneg_of_nonpos hw hv
      calc w * v - (cf * a + cf * b) ≤ 0 - 0 :=
            EReal.sub_le_sub h1 (add_nonneg (cf_mul_nonneg ha0) (cf_mul_nonneg hb0))
        _ = 0 := by simp
  · rw [if_neg hs]
    exact iff_of_false (not_pos_of_top _ (cf_mul_nonneg hb0)) fun h => hs h.2

theorem ovl_le_left (l h : ℕ → EReal) (i j : ℕ) : ovl l h i j ≤ h i - l i := EReal.sub_le_sub (min_le_left _ _) (le_max_left _ _)
theorem ovl_le_right (l h : ℕ → EReal) (i j : ℕ) : ovl l h i j ≤ h j - l j := EReal.sub_le_sub (min_le_right _ _) (le_max_right _ _)

theorem clip_mul_le {p q r s : EReal} (h : p ≤ r) (k : q ≤ s) : max p 0 * max q 0 ≤ max r 0 * max s 0 :=
  mul_le_mul (max_le_max_right 0 h) (max_le_max_right 0 k) (le_max_right _ _) (le_max_right _ _)

/-- The folded test is the quotient test where `a` is the boxes' areas. -/
theorem hits_iff (x1 y1 x2 y2 a s : ℕ → EReal) (i j : ℕ) (hi : a i = max (x2 i - x1 i) 0 * max (y2 i - y1 i) 0)
    (hj : a j = max (x2 j - x1 j) 0 * max (y2 j - y1 j) 0) :
    Hits x1 y1 x2 y2 a s i j ↔ (thr < ratio (max (ovl x1 x2 i j) 0 * max (ovl y1 y2 i j) 0) (a i + a j - max (ovl x1 x2 i j) 0 * max (ovl y1 y2 i j) 0) ∧ 0 < s i) :=
  test_iff _ _ _ _ _ (le_max_right _ _)
    (hi ▸ clip_mul_le (ovl_le_left _ _ _ _) (ovl_le_left _ _ _ _)) (hj ▸ clip_mul_le (ovl_le_right _ _ _ _) (ovl_le_right _ _ _ _))

/-! ## The recursion -/

/-- Box `j` is still kept after the first `n` boxes were taken in turn. -/
def Kept (H : ℕ → ℕ → Prop) : ℕ → ℕ → Prop
  | 0, _ => True
  | n + 1, j => Kept H n j ∧ ¬ (n < j ∧ H n j ∧ Kept H n n)

variable {H : ℕ → ℕ → Prop}

/-- A box is settled by its own turn. -/
theorem kept_add (i n : ℕ) : Kept H (i + n) i ↔ Kept H i i := by
  induction n with
  | zero => rfl
  | succ n ih =>
    rw [← add_assoc, Kept, ih, and_iff_left]
    omega

theorem kept_of_le {i n : ℕ} (h : i ≤ n) : Kept H n i ↔ Kept H i i := by
  obtain ⟨k, rfl⟩ := Nat.exists_eq_add_of_le h
  exact kept_add i k

/-- A whole run of `n` boxes from `b` on, at a later box. -/
theorem kept_block (b n j : ℕ) (hj : b + n ≤ j) : Kept H (b + n) j ↔ Kept H b j ∧ ¬ ∃ i < n, H (b + i) j ∧ Kept H (b + i) (b + i) := by
  induction n with
  | zero => simp
  | succ n ih =>
    rw [← add_assoc, Kept, ih (by omega)]
    constructor
    · rintro ⟨⟨h, h1⟩, h2⟩
      refine ⟨h, ?_⟩
      rintro ⟨i, hi, h3⟩
      rcases Nat.lt_succ_iff_lt_or_eq.1 hi with hi | rfl
      · exact h1 ⟨i, hi, h3⟩
      · exact h2 ⟨by omega, h3⟩
    · rintro ⟨h, h1⟩
      exact ⟨⟨h, fun ⟨i, hi, h3⟩ => h1 ⟨i, by omega, h3⟩⟩, fun h2 => h1 ⟨n, by omega, h2.2⟩⟩

/-- The recursion depends on the hits below the bound only. -/
theorem kept_congr {H' : ℕ → ℕ → Prop} (N : ℕ) (h : ∀ i < N, ∀ j < N, H i j ↔ H' i j) (n : ℕ) (hn : n ≤ N) (j : ℕ) (hj : j < N) :
    Kept H n j ↔ Kept H' n j := by
  induction n generalizing j with
  | zero => rfl
  | succ n ih =>
    rw [Kept, Kept, ih (by omega) j hj, ih (by omega) n (by omega), h n (by omega) j hj]

open Classical in
/-- One for a true proposition, zero for a false one. -/
def ind (p : Prop) : EReal := if p then 1 else 0

theorem ind_if (p : Prop) [Decidable p] : ind p = if p then 1 else 0 := by
  unfold ind; split_ifs <;> rfl

theorem ind_true {p : Prop} (h : p) : ind p = 1 := by rw [ind, if_pos h]

theorem ind_false {p : Prop} (h : ¬ p) : ind p = 0 := by rw [ind, if_neg h]

theorem ind_pos (p : Prop) : 0 < ind p ↔ p := by
  unfold ind; split_ifs with h <;> simp [h]

/-- One step of the chain inside a block. -/
theorem ind_step (p q r : Prop) : ind p * (1 - ind q * ind r) = ind (p ∧ ¬ (q ∧ r)) := by
  have h0 : (1 : EReal) - 0 = 1 := by simp
  have h1 : (1 : EReal) - 1 = 0 := by rw [← EReal.coe_one, ← EReal.coe_sub, sub_self]; rfl
  unfold ind
  by_cases hp : p <;> by_cases hq : q <;> by_cases hr : r <;> simp [hp, hq, hr, h0, h1]

end Cert.Nms
-- ==== Proof.RefLoop.lean ====
/- The reference's loop: after `k` trips the keep bit of box `j` is set where the greedy recursion keeps it. -/
module

public import proofs.«01_k».proof.Proof.Ref
public import proofs.«01_k».proof.Proof.Nms
public import Idealize.ShloMosaic.Lib.Pointwise
public import Idealize.ShloMosaic.Lib.IdealHost
public import Idealize.ShloMosaic.Lib.WordCmp

@[expose] public section

set_option maxRecDepth 16384

noncomputable section

namespace Cert.Proof.ReferenceIdeal

open Cert.ReferenceIdeal Cert.ReferenceIdeal.Gen Cert.ReferenceIdeal.Value Cert.Nms
open Idealize.ShloMosaic Idealize.ShloMosaic.TcCoe Idealize.SL.Sem

/-- The column that the counter names. -/
def pick {α : Type} (x : S32x5000.Idx → α) (n : IVec S_ 32) : S32x1.Idx → α :=
  Host.dynamicSlice S32x1 x (fun k => ((![constantI S_ 32 0#32, n] : Fin 2 → IVec S_ 32) k (Shape.Idx.first h_S_)).toInt) sliceFits_S32x5000_S32x1

/-- The column that the counter names, along the rows. -/
def colAt {α : Type} (x : S32x5000.Idx → α) (n : IVec S_ 32) : S32x5000.Idx → α :=
  broadcastInDim S32x5000 ![0, 1] bcast_S32x1_S32x5000_0_1 (pick x n)

/-- The intersections of the counter's box with every box. -/
def interAt (x1 y1 x2 y2 : FVec Ideal S32x5000 .f32) (n : IVec S_ 32) : FVec Ideal S32x5000 .f32 :=
  mulf (maximumf (broadcastInDim S32x5000 ![] bcast_S_S32x5000 (constant S_ .f32 0x00000000#32)) (subf (minimumf (colAt x2 n) x2) (maximumf (colAt x1 n) x1)))
    (maximumf (broadcastInDim S32x5000 ![] bcast_S_S32x5000 (constant S_ .f32 0x00000000#32)) (subf (minimumf (colAt y2 n) y2) (maximumf (colAt y1 n) y1)))

/-- The boxes' overlap test against the counter's box. -/
def overAt (x1 y1 x2 y2 a : FVec Ideal S32x5000 .f32) (n : IVec S_ 32) : IVec S32x5000 1 :=
  cmpf .ogt (select (cmpf .ogt (subf (addf (colAt a n) a) (interAt x1 y1 x2 y2 n)) (broadcastInDim S32x5000 ![] bcast_S_S32x5000 (constant S_ .f32 0x00000000#32)))
      (Host.divf (interAt x1 y1 x2 y2 n) (subf (addf (colAt a n) a) (interAt x1 y1 x2 y2 n))) (broadcastInDim S32x5000 ![] bcast_S_S32x5000 (constant S_ .f32 0x00000000#32)))
    (broadcastInDim S32x5000 ![] bcast_S_S32x5000 (constant S_ .f32 0x3EE66666#32))

/-- Whether the counter's box is kept and has a positive score. -/
def activeAt (s : FVec Ideal S32x5000 .f32) (keep : IVec S32x5000 1) (n : IVec S_ 32) : IVec S32x5000 1 :=
  broadcastInDim S32x5000 ![0, 1] bcast_S32x1_S32x5000_0_1
    (andi (pick keep n) (cmpf .ogt (pick s n) (broadcastInDim S32x1 ![] bcast_S_S32x1 (constant S_ .f32 0x00000000#32))))

/-- The keep bits after one trip. -/
def keepNext (x1 y1 x2 y2 a s : FVec Ideal S32x5000 .f32) (idx : IVec S32x5000 32) (keep : IVec S32x5000 1) (n : IVec S_ 32) : IVec S32x5000 1 :=
  andi keep (noti (andi (andi (overAt x1 y1 x2 y2 a n) (cmpi .sgt idx (broadcastInDim S32x5000 ![] bcast_S_S32x5000 n))) (activeAt s keep n)))

theorem step_eq (V : Valuation τ sig (Elt Ideal)) : step_main_v27_9 V
    = keepNext (V (Proc.devRef .tc main_v27_1)) (V (Proc.devRef .tc main_v27_3)) (V (Proc.devRef .tc main_v27_0)) (V (Proc.devRef .tc main_v27_2))
        (V (Proc.devRef .tc main_v27_4)) (V (Proc.devRef .tc main_v27_5)) (V (Proc.devRef .tc main_v27_6)) (V (Proc.devRef .tc main_v27_9)) (V (Proc.devRef .tc main_v27_8)) := rfl

/-- The counter's value. -/
abbrev ctr (k : ℕ) : IVec S_ 32 := fun _ => BitVec.ofNat 32 k

variable (x1 y1 x2 y2 a s : FVec Ideal S32x5000 .f32) (idx : IVec S32x5000 32) (keep : IVec S32x5000 1)

theorem pick_at {α : Type} (x : S32x5000.Idx → α) (k : ℕ) (hk : k < 5000) (p : Fin 32) : pick x (ctr k) (ix2 p 0 : S32x1.Idx) = x (ix2 p ⟨k, hk⟩) := by
  pointwise [pick]
  have e0 : Host.clampedStart S32x5000 S32x1 rfl (fun a => ((![constantI S_ 32 0#32, ctr k] : Fin 2 → IVec S_ 32) a (Shape.Idx.first h_S_)).toInt) 0 = 0 :=
    Host.clampedStart_of_le _ _ _ 0 rfl (by decide)
  have e1 : Host.clampedStart S32x5000 S32x1 rfl (fun a => ((![constantI S_ 32 0#32, ctr k] : Fin 2 → IVec S_ 32) a (Shape.Idx.first h_S_)).toInt) 1 = k := by
    refine Host.clampedStart_of_le _ _ _ k ?_ ?_
    · show (BitVec.ofNat 32 k).toInt = k
      rw [BitVec.toInt_eq_toNat_of_lt] <;> simp only [BitVec.toNat_ofNat] <;> omega
    · show k + 1 ≤ 5000; omega
  refine congrArg x ((ix2_inj ..).2 ⟨Fin.ext ?_, Fin.ext ?_⟩)
  · show _ + p.val = p.val
    rw [e0]; omega
  · exact e1

theorem colAt_at {α : Type} (x : S32x5000.Idx → α) (k : ℕ) (hk : k < 5000) (p : Fin 32) (j : Fin 5000) : colAt x (ctr k) (ix2 p j) = x (ix2 p ⟨k, hk⟩) := by
  pointwise [colAt]
  exact pick_at x k hk p

/-- Entry `n` of row `p`, zero past the row's end. -/
def cell (X : FVec Ideal S32x5000 .f32) (p : Fin 32) (n : ℕ) : EReal := if h : n < 5000 then X (ix2 p ⟨n, h⟩) else 0

theorem cell_of_lt (X : FVec Ideal S32x5000 .f32) (p : Fin 32) (n : ℕ) (h : n < 5000) : cell X p n = X (ix2 p ⟨n, h⟩) := dif_pos h

/-- Box `i` of row `p` overlaps box `j` above the threshold and has a positive score. -/
def Hit (p : Fin 32) (i j : ℕ) : Prop :=
  thr < ratio (max (ovl (cell x1 p) (cell x2 p) i j) 0 * max (ovl (cell y1 p) (cell y2 p) i j) 0)
      (cell a p i + cell a p j - max (ovl (cell x1 p) (cell x2 p) i j) 0 * max (ovl (cell y1 p) (cell y2 p) i j) 0)
    ∧ 0 < cell s p i

theorem ofBits_thr : Ideal.ofBits .f32 0x3EE66666#32 = thr := by
  unfold thr
  simp [Ideal.ofBits, Ideal.ieee]
  rw [← EReal.coe_mul]
  norm_num

open Classical in
/-- The bit of a proposition. -/
def bit (q : Prop) : BitVec 1 := BitVec.ofBool (decide q)

/-- One trip on the bits, as propositions. -/
theorem bit_step (q r u v w : Prop) [Decidable r] [Decidable u] [Decidable w] :
    IntOp.andi (bit q) (~~~ IntOp.andi (BitVec.ofBool (decide r && decide u)) (IntOp.andi (bit v) (BitVec.ofBool (decide w))))
      = bit (q ∧ ¬ (u ∧ (r ∧ w) ∧ v)) := by
  unfold bit
  by_cases hq : q <;> by_cases hr : r <;> by_cases hu : u <;> by_cases hv : v <;> by_cases hw : w <;> simp [hq, hr, hu, hv, hw, IntOp.andi]

/-- One trip of the loop. -/
theorem keepNext_at (k : ℕ) (hk : k < 5000) (hi : ∀ (p : Fin 32) (j : Fin 5000), idx (ix2 p j) = BitVec.ofNat 32 j.val)
    (hK : ∀ (p : Fin 32) (j : Fin 5000), keep (ix2 p j) = bit (Kept (Hit x1 y1 x2 y2 a s p) k j)) (p : Fin 32) (j : Fin 5000) :
    keepNext x1 y1 x2 y2 a s idx keep (ctr k) (ix2 p j) = bit (Kept (Hit x1 y1 x2 y2 a s p) (k + 1) j) := by
  pointwise [keepNext, overAt, interAt, activeAt]
  simp only [colAt_at _ k hk, pick_at _ k hk, hi, hK, ctr, ofBits_thr]
  simp (disch := word_cmp_side) only [hlo_ix]
  refine (bit_step _ _ _ _ _).trans (congrArg bit (propext ?_))
  have e : ∀ X : FVec Ideal S32x5000 .f32, cell X p j.val = X (ix2 p j) := fun X => cell_of_lt X p j.val j.isLt
  simp only [Kept, Hit, ovl, ratio, e, cell_of_lt _ p k hk, max_comm (0 : EReal)]

/-! ## All trips -/

variable (m : (ℓ : Loc nD τ sig) → Buf (Elt Ideal) ℓ)

/-- The keep bits after `k` trips, where the loop enters with the box numbers and every bit set. -/
theorem trips_at (V : Valuation τ sig (Elt Ideal)) (h8 : V (Proc.devRef .tc main_v27_8) = ctr 0)
    (h6 : ∀ (p : Fin 32) (j : Fin 5000), (V (Proc.devRef .tc main_v27_6) : IVec S32x5000 32) (ix2 p j) = BitVec.ofNat 32 j.val)
    (h9 : ∀ (p : Fin 32) (j : Fin 5000), (V (Proc.devRef .tc main_v27_9) : IVec S32x5000 1) (ix2 p j) = 1#1) (k : ℕ) (hk : k ≤ 5000) :
    STEP^[k] V (Proc.devRef .tc main_v27_8) = ctr k
      ∧ (∀ b ∈ [main_v27_0, main_v27_1, main_v27_2, main_v27_3, main_v27_4, main_v27_5, main_v27_6], STEP^[k] V (Proc.devRef .tc b) = V (Proc.devRef .tc b))
      ∧ ∀ (p : Fin 32) (j : Fin 5000), (STEP^[k] V (Proc.devRef .tc main_v27_9) : IVec S32x5000 1) (ix2 p j)
        = bit (Kept (Hit (V (Proc.devRef .tc main_v27_1)) (V (Proc.devRef .tc main_v27_3)) (V (Proc.devRef .tc main_v27_0)) (V (Proc.devRef .tc main_v27_2))
            (V (Proc.devRef .tc main_v27_4)) (V (Proc.devRef .tc main_v27_5)) p) k j) := by
  induction k with
  | zero => exact ⟨h8, fun _ _ => rfl, fun p j => (h9 p j).trans (by unfold bit Kept; simp)⟩
  | succ k ih =>
    obtain ⟨i8, ib, i9⟩ := ih (by omega)
    rw [Function.iterate_succ_apply']
    refine ⟨?_, ?_, ?_⟩
    · rw [STEP_main_v27_8]
      unfold step_main_v27_8
      rw [i8]
      funext i
      show BitVec.ofNat 32 k + 1#32 = BitVec.ofNat 32 (k + 1)
      rw [BitVec.ofNat_add]
    · intro b hb
      refine Eq.trans ?_ (ib b hb)
      simp only [List.mem_cons, List.not_mem_nil, or_false] at hb
      rcases hb with rfl | rfl | rfl | rfl | rfl | rfl | rfl
      · exact STEP_main_v27_0 _
      · exact STEP_main_v27_1 _
      · exact STEP_main_v27_2 _
      · exact STEP_main_v27_3 _
      · exact STEP_main_v27_4 _
      · exact STEP_main_v27_5 _
      · exact STEP_main_v27_6 _
    · intro p j
      rw [STEP_main_v27_9, step_eq, i8, ib _ (by decide), ib _ (by decide), ib _ (by decide), ib _ (by decide), ib _ (by decide), ib _ (by decide), ib _ (by decide)]
      exact keepNext_at _ _ _ _ _ _ _ _ k (by omega) h6 i9 p j

end Cert.Proof.ReferenceIdeal
-- ==== Proof.Host.lean ====
/- The arrays that both programs compute before and after the suppression, as functions of the arguments. -/
module

public import proofs.«01_k».proof.Proof.Run
public import Idealize.ShloMosaic.Lib.Pointwise
public import Idealize.ShloMosaic.Lib.IdealHost
public import Idealize.ShloMosaic.Lib.StableHlo.RunRead

@[expose] public section

set_option maxRecDepth 16384

noncomputable section

namespace Cert.Proof.Host

open Cert.KernelIdeal Cert.KernelIdeal.Gen
open Idealize.ShloMosaic Idealize.ShloMosaic.TcCoe Idealize.SL.Sem

/-- The scores, those up to the first threshold zeroed, a row for every image and class. -/
def score (C : FVec Ideal S8x4x5000 .f32) : FVec Ideal S32x5000 .f32 :=
  shapeCast S32x5000 (select (cmpf .ogt C (broadcastInDim S8x4x5000 ![] bcast_S_S8x4x5000 (constant S_ .f32 0x3BA3D70A#32))) C
    (broadcastInDim S8x4x5000 ![] bcast_S_S8x4x5000 (constant S_ .f32 0x00000000#32))) shapeCasts_S8x4x5000_S32x5000

/-- The positions of a row in the order of falling scores. -/
def order (C : FVec Ideal S8x4x5000 .f32) : IVec S32x5000 32 :=
  (Host.sort2 S32x5000 1 comparator_f32_i32_d1 (Host.negf (score C)) (iotaInDim S32x5000 32 1)).2

/-- A position counted from the row's end where it is negative. -/
def norm (o : IVec S32x5000 32) : IVec S32x5000 32 :=
  select (cmpi .slt o (broadcastInDim S32x5000 ![] bcast_S_S32x5000 (constantI S_ 32 0#32)))
    (addi o (broadcastInDim S32x5000 ![] bcast_S_S32x5000 (constantI S_ 32 5000#32))) o

/-- Whether a position lies in its row. -/
def inRow (q : IVec S32x5000x1 32) : IVec S32x5000 1 :=
  Host.reduce IntOp.andi (andi (cmpi .sge q (broadcastInDim S32x5000x1 ![] bcast_S_S32x5000x1 (constantI S_ 32 0#32)))
    (cmpi .sle q (broadcastInDim S32x5000x1 ![0, 1, 2] bcast_S1x1x1_S32x5000x1_0_1_2 (broadcastInDim S1x1x1 ![2] bcast_S1_S1x1x1_2 (constantI S1 32 4999#32)))))
    (constantI S_ 1 1#1) reducesTo_S32x5000x1_S32x5000_d2 h_S_

/-- The entries of `x` at the positions `o`, row by row. -/
def take (x : FVec Ideal S32x5000 .f32) (o : IVec S32x5000 32) : FVec Ideal S32x5000 .f32 :=
  select (inRow (shapeCast S32x5000x1 (norm o) shapeCasts_S32x5000_S32x5000x1))
    (Host.gather gather_S32x5000_S32x5000x1_S32x5000_n_1_0_0_1_2_11 x (shapeCast S32x5000x1 (norm o) shapeCasts_S32x5000_S32x5000x1))
    (broadcastInDim S32x5000 ![] bcast_S_S32x5000 (constant S_ .f32 0x7FC00000#32))

/-- The boxes, repeated for every class. -/
def boxes (B : FVec Ideal S8x5000x4 .f32) : FVec Ideal S32x5000x4 .f32 :=
  shapeCast S32x5000x4 (broadcastInDim S8x4x5000x4 ![0, 1, 2, 3] bcast_S8x1x5000x4_S8x4x5000x4_0_1_2_3
    (broadcastInDim S8x1x5000x4 ![0, 2, 3] bcast_S8x5000x4_S8x1x5000x4_0_2_3 B)) shapeCasts_S8x4x5000x4_S32x5000x4

/-- The positions `o` as a column, counted from the row's end where negative. -/
def normCol (o : IVec S32x5000 32) : IVec S32x5000x1 32 :=
  select (cmpi .slt (broadcastInDim S32x5000x1 ![0, 1] bcast_S32x5000_S32x5000x1_0_1 o) (broadcastInDim S32x5000x1 ![] bcast_S_S32x5000x1 (constantI S_ 32 0#32)))
    (addi (broadcastInDim S32x5000x1 ![0, 1] bcast_S32x5000_S32x5000x1_0_1 o) (broadcastInDim S32x5000x1 ![] bcast_S_S32x5000x1 (constantI S_ 32 5000#32)))
    (broadcastInDim S32x5000x1 ![0, 1] bcast_S32x5000_S32x5000x1_0_1 o)

/-- The boxes of `x` at the positions `o`, row by row. -/
def takeBoxes (x : FVec Ideal S32x5000x4 .f32) (o : IVec S32x5000 32) : FVec Ideal S32x5000x4 .f32 :=
  select (broadcastInDim S32x5000x4 ![0, 1] bcast_S32x5000_S32x5000x4_0_1 (inRow (normCol o)))
    (Host.gather gather_S32x5000x4_S32x5000x1_S32x5000x4_2_1_0_0_1_2_114 x (normCol o))
    (broadcastInDim S32x5000x4 ![] bcast_S_S32x5000x4 (constant S_ .f32 0x7FC00000#32))

/-- The left edges. -/
def bx1 (b : FVec Ideal S32x5000x4 .f32) : FVec Ideal S32x5000 .f32 :=
  shapeCast S32x5000 (extractStridedSlice S32x5000x1 ![0, 0, 0] b slices_S32x5000x4_S32x5000x1_0_0_0) shapeCasts_S32x5000x1_S32x5000
/-- The lower edges. -/
def by1 (b : FVec Ideal S32x5000x4 .f32) : FVec Ideal S32x5000 .f32 :=
  shapeCast S32x5000 (extractStridedSlice S32x5000x1 ![0, 0, 1] b slices_S32x5000x4_S32x5000x1_0_0_1) shapeCasts_S32x5000x1_S32x5000
/-- The right edges. -/
def bx2 (b : FVec Ideal S32x5000x4 .f32) : FVec Ideal S32x5000 .f32 :=
  shapeCast S32x5000 (extractStridedSlice S32x5000x1 ![0, 0, 2] b slices_S32x5000x4_S32x5000x1_0_0_2) shapeCasts_S32x5000x1_S32x5000
/-- The upper edges. -/
def by2 (b : FVec Ideal S32x5000x4 .f32) : FVec Ideal S32x5000 .f32 :=
  shapeCast S32x5000 (extractStridedSlice S32x5000x1 ![0, 0, 3] b slices_S32x5000x4_S32x5000x1_0_0_3) shapeCasts_S32x5000x1_S32x5000

/-- A row of zeros. -/
abbrev zeros : FVec Ideal S32x5000 .f32 := broadcastInDim S32x5000 ![] bcast_S_S32x5000 (constant S_ .f32 0x00000000#32)

/-- The areas, as the kernel computes them. -/
def areas (b : FVec Ideal S32x5000x4 .f32) : FVec Ideal S32x5000 .f32 :=
  mulf (maximumf (subf (bx2 b) (bx1 b)) zeros) (maximumf (subf (by2 b) (by1 b)) zeros)

/-- A row filled with zeros up to 5120. -/
def padded (x : FVec Ideal S32x5000 .f32) : FVec Ideal S32x5120 .f32 :=
  pad S32x5120 ![0, 0] ![0, 120] ![0, 0] x (sitofp .f32 (constantI S_ 32 0#32)) pads_S32x5000_S32x5120_000_01200 h_S_

seal Host.gather Host.sort2 Host.reduce

variable (m : (ℓ : Loc nD τ sig) → Buf (Elt Ideal) ℓ)

/-- The sorted boxes. -/
abbrev sorted (B : FVec Ideal S8x5000x4 .f32) (C : FVec Ideal S8x4x5000 .f32) : FVec Ideal S32x5000x4 .f32 := takeBoxes (boxes B) (order C)

open Idealize.ShloMosaic.StableHlo

/-- The boxes of the arguments, sorted. -/
abbrev sortedAt (c : Dev nD) : FVec Ideal S32x5000x4 .f32 :=
  sorted (m ((c.tc : Thread nD τ).loc main_arg0)) (m ((c.tc : Thread nD τ).loc main_arg1))
/-- The order of the argument's scores. -/
abbrev orderAt (c : Dev nD) : IVec S32x5000 32 := order (m ((c.tc : Thread nD τ).loc main_arg1))
/-- The argument's scores, sorted. -/
abbrev scoreAt (c : Dev nD) : FVec Ideal S32x5000 .f32 := take (score (m ((c.tc : Thread nD τ).loc main_arg1))) (orderAt m c)

/-- What the kernel's host operations leave before the kernel. -/
theorem V_reads (c : Dev nD) : V0 m c (Proc.devRef .tc main_v5) = orderAt m c
    ∧ V0 m c (Proc.devRef .tc main_v6) = scoreAt m c
    ∧ V0 m c (Proc.devRef .tc main_v27) = padded (bx1 (sortedAt m c))
    ∧ V0 m c (Proc.devRef .tc main_v28) = padded (by1 (sortedAt m c))
    ∧ V0 m c (Proc.devRef .tc main_v29) = padded (bx2 (sortedAt m c))
    ∧ V0 m c (Proc.devRef .tc main_v30) = padded (by2 (sortedAt m c))
    ∧ V0 m c (Proc.devRef .tc main_v31) = padded (areas (sortedAt m c))
    ∧ V0 m c (Proc.devRef .tc main_v32) = padded (scoreAt m c) := by
  unfold V0
  simp only [List.flatten_cons, List.flatten_nil, List.append_nil, after_append]
  refine ⟨?_, ?_, ?_, ?_, ?_, ?_, ?_, ?_⟩ <;> after_reads_simp <;>
    simp -implicitDefEqProofs only [TRef.ofBuf, TRef.toBuf, cast_cast, cast_eq] <;> rfl

/-- The sorted scores kept where `k` is positive, zero elsewhere, put back in the order of `o`. -/
def back (k : FVec Ideal S32x5120 .f32) (s : FVec Ideal S32x5000 .f32) (o : IVec S32x5000 32) : FVec Ideal S32x5000 .f32 :=
  take (select (cmpf .ogt (extractStridedSlice S32x5000 ![0, 0] k slices_S32x5120_S32x5000_0_0) zeros) s zeros)
    (Host.sort2 S32x5000 1 comparator_i32_i32_d1 o (iotaInDim S32x5000 32 1)).2

/-- What the kernel's host operations leave after the kernel. -/
theorem post_reads (W : Valuation τ sig (Elt Ideal)) :
    after hostOps1_4 (after hostOps1_3 (after hostOps1_2 (after hostOps1_1 (after hostOps1 W)))) (Proc.devRef .tc main_v40)
      = shapeCast S8x4x5000 (back (W (Proc.devRef .tc main_v33)) (W (Proc.devRef .tc main_v6)) (W (Proc.devRef .tc main_v5))) shapeCasts_S32x5000_S8x4x5000 := by
  after_reads_simp
  simp -implicitDefEqProofs only [TRef.ofBuf, TRef.toBuf, cast_cast, cast_eq]
  rfl

end Cert.Proof.Host
-- ==== Proof.Order.lean ====
/- Sorting positions: a sorted array of positions is a permutation of its row, and sorting it again inverts it. -/
module

public import proofs.«01_k».proof.Proof.Host
public import Idealize.ShloMosaic.Lib.SortFacts

@[expose] public section

set_option maxRecDepth 16384

noncomputable section

namespace Cert.Proof.Host

open Cert.KernelIdeal Cert.KernelIdeal.Gen
open Idealize.ShloMosaic Idealize.ShloMosaic.TcCoe Idealize.SL.Sem

/-- An index of a row, at another position of that row. -/
theorem along_ix2 {A B : Nat} (p : Fin A) (n k : Fin B) : (ix2 p n : (⟨2, ![A, B]⟩ : Shape).Idx).along 1 k = ix2 p k := by
  funext a
  match a with
  | ⟨0, _⟩ => rfl
  | ⟨1, _⟩ => rfl

/-- A row of positions that are a permutation of the row. -/
def IsPerm (o : IVec S32x5000 32) (σ : Fin 32 → Fin 5000 → Fin 5000) : Prop :=
  (∀ p, Function.Bijective (σ p)) ∧ ∀ p n, o (ix2 p n) = BitVec.ofNat 32 (σ p n).val

/-- Positions sorted by any key are a permutation. -/
theorem sort_perm {α : Type} (cmp : α × BitVec 32 → α × BitVec 32 → BitVec 1) (x : S32x5000.Idx → α) :
    IsPerm (Host.sort2 S32x5000 1 cmp x (iotaInDim S32x5000 32 1)).2 (fun p => sortedFrom fun k k' =>
      cmp (x (ix2 p k), BitVec.ofNat 32 k.val) (x (ix2 p k'), BitVec.ofNat 32 k'.val) == 1#1) := by
  refine ⟨fun p => ⟨sortedFrom_injective _, sortedFrom_surjective _⟩, fun p n => ?_⟩
  have hi : ∀ k : Fin 5000, iotaInDim S32x5000 32 1 (ix2 p k) = BitVec.ofNat 32 k.val := fun _ => rfl
  have h : (Host.sort2 S32x5000 1 cmp x (iotaInDim S32x5000 32 1)).2 (ix2 p n)
      = iotaInDim S32x5000 32 1 ((ix2 p n : S32x5000.Idx).along 1 (sortedFrom (fun k k' : Fin 5000 =>
        cmp (x ((ix2 p n : S32x5000.Idx).along 1 k), iotaInDim S32x5000 32 1 ((ix2 p n : S32x5000.Idx).along 1 k))
          (x ((ix2 p n : S32x5000.Idx).along 1 k'), iotaInDim S32x5000 32 1 ((ix2 p n : S32x5000.Idx).along 1 k')) == 1#1) n)) := rfl
  rw [h]
  simp only [along_ix2, hi]
  exact (congrArg (iotaInDim S32x5000 32 1) (along_ix2 p n _)).trans (hi _)

/-- A map of a finite range to itself that rises is the identity. -/
theorem rising_id {N : Nat} (f : Fin N → Fin N) (h : ∀ i j, i < j → f i < f j) (n : Fin N) : f n = n := by
  have lo : ∀ k (hk : k < N), k ≤ (f ⟨k, hk⟩).val := by
    intro k
    induction k with
    | zero => exact fun _ => Nat.zero_le _
    | succ k ih =>
      intro hk
      have h1 := ih (by omega)
      have h2 : (f ⟨k, by omega⟩).val < (f ⟨k + 1, hk⟩).val := h _ _ (Nat.lt_succ_self k)
      omega
  have hi : ∀ d (k : Fin N), k.val + d + 1 = N → (f k).val ≤ k.val := by
    intro d
    induction d with
    | zero => intro k hk; have := (f k).isLt; omega
    | succ d ih =>
      intro k hk
      have hk' : k.val + 1 < N := by omega
      have h1 := ih ⟨k.val + 1, hk'⟩ (by simp only; omega)
      have h2 : (f k).val < (f ⟨k.val + 1, hk'⟩).val := h _ _ (Nat.lt_succ_self k.val)
      simp only at h1
      omega
  have := lo n.val n.isLt
  have h2 := hi (N - n.val - 1) n (by have := n.isLt; omega)
  exact Fin.ext (le_antisymm h2 this)

/-- A position as a signed word. -/
theorem toInt_pos (a : Fin 5000) : (BitVec.ofNat 32 a.val).toInt = a.val := by
  have := a.isLt
  rw [BitVec.toInt_ofNat', Int.bmod_def]
  omega

/-- Comparing positions as signed words compares the positions. -/
theorem slt_pos (a b : Fin 5000) : ((IntOp.cmpi .slt (BitVec.ofNat 32 a.val) (BitVec.ofNat 32 b.val)) == 1#1) = decide (a < b) := by
  have e : IntOp.cmpi .slt (BitVec.ofNat 32 a.val) (BitVec.ofNat 32 b.val)
      = BitVec.ofBool (decide ((BitVec.ofNat 32 a.val).toInt < (BitVec.ofNat 32 b.val).toInt)) := rfl
  rw [e, toInt_pos, toInt_pos]
  by_cases h : a < b
  · have h' : (a.val : ℤ) < b.val := by exact_mod_cast h
    rw [decide_eq_true h', decide_eq_true h]; rfl
  · have h' : ¬ (a.val : ℤ) < b.val := by exact_mod_cast h
    rw [decide_eq_false h', decide_eq_false h]; rfl

/-- Sorting a permutation's positions by its values inverts it. -/
theorem sort_inv (o : IVec S32x5000 32) (σ : Fin 32 → Fin 5000 → Fin 5000) (h : IsPerm o σ) :
    ∃ ι : Fin 32 → Fin 5000 → Fin 5000, IsPerm (Host.sort2 S32x5000 1 comparator_i32_i32_d1 o (iotaInDim S32x5000 32 1)).2 ι
      ∧ ∀ p n, σ p (ι p n) = n := by
  refine ⟨_, sort_perm _ o, fun p n => ?_⟩
  have hB : (fun k k' => comparator_i32_i32_d1 (o (ix2 p k), BitVec.ofNat 32 k.val) (o (ix2 p k'), BitVec.ofNat 32 k'.val) == 1#1)
      = fun k k' : Fin 5000 => decide (σ p k < σ p k') := by
    funext k k'
    rw [h.2 p k, h.2 p k']
    exact slt_pos _ _
  simp only [hB]
  refine rising_id (fun n => σ p (sortedFrom (fun k k' => decide (σ p k < σ p k')) n)) (fun i j hij => ?_) n
  have hno := sortedFrom_noInversion (fun k k' => decide (σ p k < σ p k')) (fun k k' => decide (σ p k < σ p k'))
    (fun a b q => decide_eq_false (not_lt.2 (le_of_lt (of_decide_eq_true q)))) (fun _ _ q => q)
    (fun a b c q r => decide_eq_false (not_lt.2 (le_trans (not_lt.1 (of_decide_eq_false r)) (not_lt.1 (of_decide_eq_false q))))) i j hij
  refine lt_of_le_of_ne (not_lt.1 (of_decide_eq_false hno)) fun e => ?_
  exact (ne_of_lt hij) (sortedFrom_injective _ ((h.1 p).1 e))

end Cert.Proof.Host
-- ==== Proof.Take.lean ====
/- Reading an array at in-range positions, row by row. -/
module

public import proofs.«01_k».proof.Proof.Order
public import Idealize.ShloMosaic.Lib.ReduceAll

@[expose] public section

set_option maxRecDepth 16384

noncomputable section

namespace Cert.Proof.Host

open Cert.KernelIdeal Cert.KernelIdeal.Gen
open Idealize.ShloMosaic Idealize.ShloMosaic.TcCoe Idealize.SL.Sem

/-- The gather along a row. -/
abbrev rowGather := gather_S32x5000_S32x5000x1_S32x5000_n_1_0_0_1_2_11

/-- The gather stays in its row. -/
theorem rowGather_row (q : IVec S32x5000x1 32) (p : Fin 32) (n : Fin 5000) : (rowGather.operandIdx (ix2 p n) q 0).val = p.val := by
  have hm : (0 : Fin 2) ∈ rowGather.operandBatchingDims := List.mem_singleton.mpr rfl
  have h1 : rowGather.start (ix2 p n) q 0 = 0 := rowGather.start_batching _ _ _ hm
  have h2 : rowGather.offCoord (ix2 p n) 0 = 0 := rowGather.offCoord_eq_zero _ _ fun h => ((rowGather.mem_sKept _).1 h).2 hm
  have h3 : rowGather.batchCoord (ix2 p n) 0 = p.val := (dif_pos hm).trans rfl
  show rowGather.start (ix2 p n) q 0 + rowGather.batchCoord (ix2 p n) 0 + rowGather.offCoord (ix2 p n) 0 = _
  rw [h1, h2, h3, Nat.zero_add, Nat.add_zero]

/-- The gather reads the position it is given, if that lies in the row. -/
theorem rowGather_col (q : IVec S32x5000x1 32) (p : Fin 32) (n b : Fin 5000) (hq : q (ix3 p n 0) = BitVec.ofNat 32 b.val) :
    (rowGather.operandIdx (ix2 p n) q 1).val = b.val := by
  have hm : (1 : Fin 2) ∈ rowGather.startIndexMap := List.mem_singleton.mpr rfl
  have h2 : rowGather.offCoord (ix2 p n) 1 = 0 :=
    rowGather.offCoord_eq_zero _ _ fun h => ((rowGather.mem_sKept _).1 h).1 (List.mem_singleton.mpr rfl)
  have h3 : rowGather.batchCoord (ix2 p n) 1 = 0 :=
    rowGather.batchCoord_eq_zero _ _ fun h => absurd (List.mem_singleton.1 h) (by decide)
  have hs : ∀ c, rowGather.siIdx (ix2 p n) c = ix3 p n 0 := fun c => by
    have hc : c.val = 0 := Nat.lt_one_iff.1 c.isLt
    funext d
    match d with
    | ⟨0, _⟩ => rfl
    | ⟨1, _⟩ => rfl
    | ⟨2, _⟩ => exact Fin.ext hc
  have h1 : rowGather.start (ix2 p n) q 1 = min (q (ix3 p n 0)).toInt.toNat 4999 :=
    (dif_pos hm).trans (congrArg (fun i => min (q i).toInt.toNat 4999) (hs _))
  show rowGather.start (ix2 p n) q 1 + rowGather.batchCoord (ix2 p n) 1 + rowGather.offCoord (ix2 p n) 1 = _
  rw [h1, h2, h3, hq, toInt_pos, Int.toNat_natCast]
  have := b.isLt
  omega

/-- The gather along a row, at a position in range. -/
theorem gather_at (x : FVec Ideal S32x5000 .f32) (q : IVec S32x5000x1 32) (p : Fin 32) (n b : Fin 5000)
    (hq : q (ix3 p n 0) = BitVec.ofNat 32 b.val) : Host.gather rowGather x q (ix2 p n) = x (ix2 p b) :=
  congrArg x (funext fun a => Fin.ext (match a with
    | ⟨0, _⟩ => rowGather_row q p n
    | ⟨1, _⟩ => rowGather_col q p n b hq))

/-- A position in range is not counted from the row's end. -/
theorem norm_at (o : IVec S32x5000 32) (i : S32x5000.Idx) (b : Fin 5000) (h : o i = BitVec.ofNat 32 b.val) :
    norm o i = BitVec.ofNat 32 b.val := by
  have e : IntOp.cmpi .slt (o i) 0#32 = 0#1 := by
    have e : IntOp.cmpi .slt (o i) 0#32 = BitVec.ofBool (decide ((o i).toInt < (0#32 : BitVec 32).toInt)) := rfl
    rw [e, h, toInt_pos, decide_eq_false (by simp)]; rfl
  have u : norm o i = if IntOp.cmpi .slt (o i) 0#32 = 1#1 then o i + 5000#32 else o i := rfl
  rw [u, e, if_neg (by decide), h]

/-- Whether a position in range lies in its row. -/
theorem inRow_at (q : IVec S32x5000x1 32) (σ : Fin 32 → Fin 5000 → Fin 5000)
    (h : ∀ p n, q (ix3 p n 0) = BitVec.ofNat 32 (σ p n).val) (i : S32x5000.Idx) : inRow q i = 1#1 := by
  unfold inRow
  refine Host.reduce_andi_one _ _ _ _ _ rfl fun k => ?_
  have hk : k = ix3 (k 0) (k 1) 0 := by
    funext d
    match d with
    | ⟨0, _⟩ => rfl
    | ⟨1, _⟩ => rfl
    | ⟨2, _⟩ => exact Fin.ext (Nat.lt_one_iff.1 (k 2).isLt)
  rw [hk]
  have hb := (σ (k 0) (k 1)).isLt
  have e : ∀ v : BitVec 32, v = BitVec.ofNat 32 (σ (k 0) (k 1)).val →
      IntOp.andi (IntOp.cmpi .sge v 0#32) (IntOp.cmpi .sle v 4999#32) = 1#1 := by
    rintro v rfl
    have e1 : ∀ u v : BitVec 32, IntOp.cmpi .sge u v = BitVec.ofBool (decide (v.toInt ≤ u.toInt)) := fun _ _ => rfl
    have e2 : ∀ u v : BitVec 32, IntOp.cmpi .sle u v = BitVec.ofBool (decide (u.toInt ≤ v.toInt)) := fun _ _ => rfl
    have z0 : (0#32 : BitVec 32).toInt = 0 := by decide
    have z1 : (4999#32 : BitVec 32).toInt = 4999 := by decide
    rw [e1, e2, toInt_pos, z0, z1, decide_eq_true (by omega), decide_eq_true (by omega)]
    rfl
  exact e _ (h _ _)

/-- The entries at positions that are a permutation. -/
theorem take_at (x : FVec Ideal S32x5000 .f32) (o : IVec S32x5000 32) (σ : Fin 32 → Fin 5000 → Fin 5000)
    (h : ∀ p n, o (ix2 p n) = BitVec.ofNat 32 (σ p n).val) (p : Fin 32) (n : Fin 5000) : take x o (ix2 p n) = x (ix2 p (σ p n)) := by
  have hq : ∀ p n, shapeCast S32x5000x1 (norm o) shapeCasts_S32x5000_S32x5000x1 (ix3 p n 0) = BitVec.ofNat 32 (σ p n).val := by
    intro p n
    have e : shapeCast S32x5000x1 (norm o) shapeCasts_S32x5000_S32x5000x1 (ix3 p n 0) = norm o (ix2 p n) := by
      pointwise []
    exact e.trans (norm_at o _ _ (h p n))
  have u : take x o (ix2 p n) = if inRow (shapeCast S32x5000x1 (norm o) shapeCasts_S32x5000_S32x5000x1) (ix2 p n) = 1#1
      then Host.gather gather_S32x5000_S32x5000x1_S32x5000_n_1_0_0_1_2_11 x (shapeCast S32x5000x1 (norm o) shapeCasts_S32x5000_S32x5000x1) (ix2 p n)
      else broadcastInDim S32x5000 ![] bcast_S_S32x5000 (constant S_ .f32 0x7FC00000#32) (ix2 p n) := rfl
  rw [u, if_pos (inRow_at _ σ hq _), gather_at _ _ p n (σ p n) (hq p n)]

end Cert.Proof.Host
-- ==== Proof.RefHost.lean ====
/- The arrays that the reference computes before and after its loop, and its write back in the boxes' first order. -/
module

public import proofs.«01_k».proof.Proof.RefLoop
public import proofs.«01_k».proof.Proof.Take
public import Idealize.ShloMosaic.Lib.Routing.OpsSet
public import Idealize.ShloMosaic.Lib.Routing.OpsPair

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem
open Idealize.ShloMosaic.StableHlo
open Cert.Proof.Host (score order take boxes takeBoxes bx1 by1 bx2 by2 zeros sorted IsPerm)

seal Host.gather Host.sort2 Host.reduce

/-- The areas, as the reference computes them. -/
def areas (b : FVec Ideal S32x5000x4 .f32) : FVec Ideal S32x5000 .f32 :=
  mulf (maximumf zeros (subf (bx2 b) (bx1 b))) (maximumf zeros (subf (by2 b) (by1 b)))

/-- A position in a range of `n` counted from the range's end where it is negative. -/
def wrap (n : BitVec 32) (o : IVec S32x5000 32) : IVec S32x5000 32 :=
  select (cmpi .slt o (broadcastInDim S32x5000 ![] bcast_S_S32x5000 (constantI S_ 32 0#32)))
    (addi o (broadcastInDim S32x5000 ![] bcast_S_S32x5000 (constantI S_ 32 n))) o

/-- Where the entries are written: row and position. -/
def cells (o : IVec S32x5000 32) : IVec S32x5000x2 32 :=
  concatenate S32x5000x2 2 [⟨S32x5000x1, broadcastInDim S32x5000x1 ![0, 1] bcast_S32x5000_S32x5000x1_0_1 (wrap 32#32 (iotaInDim S32x5000 32 0))⟩,
    ⟨S32x5000x1, broadcastInDim S32x5000x1 ![0, 1] bcast_S32x5000_S32x5000x1_0_1 (wrap 5000#32 o)⟩] concatenates_S32x5000x1_S32x5000x1_S32x5000x2_d2

/-- The sorted scores kept where `k` is set, zero elsewhere, written to the positions of `o`. -/
def back (k : IVec S32x5000 1) (s : FVec Ideal S32x5000 .f32) (o : IVec S32x5000 32) : FVec Ideal S32x5000 .f32 :=
  Host.scatter scatter_S32x5000_S32x5000x2_S32x5000_n_01_01_2 (fun _ b => b) zeros (cells o) (select k s zeros)

variable (m : (ℓ : Loc nD τ sig) → Buf (Elt Ideal) ℓ)

/-- The boxes of the arguments, sorted. -/
abbrev sortedAt (c : Dev nD) : FVec Ideal S32x5000x4 .f32 :=
  sorted (m ((c.tc : Thread nD τ).loc main_arg0)) (m ((c.tc : Thread nD τ).loc main_arg1))
/-- The order of the argument's scores. -/
abbrev orderAt (c : Dev nD) : IVec S32x5000 32 := order (m ((c.tc : Thread nD τ).loc main_arg1))
/-- The argument's scores, sorted. -/
abbrev scoreAt (c : Dev nD) : FVec Ideal S32x5000 .f32 := take (score (m ((c.tc : Thread nD τ).loc main_arg1))) (orderAt m c)

/-- What the reference's operations leave before the loop. -/
theorem entry_reads (c : Dev nD) : entryContents preI m c (Proc.devRef .tc main_v5) = orderAt m c
    ∧ entryContents preI m c (Proc.devRef .tc main_v6) = scoreAt m c
    ∧ entryContents preI m c (Proc.devRef .tc main_v27_0) = bx2 (sortedAt m c)
    ∧ entryContents preI m c (Proc.devRef .tc main_v27_1) = bx1 (sortedAt m c)
    ∧ entryContents preI m c (Proc.devRef .tc main_v27_2) = by2 (sortedAt m c)
    ∧ entryContents preI m c (Proc.devRef .tc main_v27_3) = by1 (sortedAt m c)
    ∧ entryContents preI m c (Proc.devRef .tc main_v27_4) = areas (sortedAt m c)
    ∧ entryContents preI m c (Proc.devRef .tc main_v27_5) = scoreAt m c
    ∧ entryContents preI m c (Proc.devRef .tc main_v27_6) = iotaInDim S32x5000 32 1
    ∧ entryContents preI m c (Proc.devRef .tc main_v27_8) = ctr 0
    ∧ entryContents preI m c (Proc.devRef .tc main_v27_9) = fun _ => 1#1 := by
  simp only [entryContents, afterL_cons, afterL_nil]
  refine ⟨?_, ?_, ?_, ?_, ?_, ?_, ?_, ?_, ?_, ?_, ?_⟩ <;> after_reads_simp <;>
    (try simp -implicitDefEqProofs only [TRef.ofBuf, TRef.toBuf, cast_cast, cast_eq]) <;> rfl

/-- What the reference's operations leave after the loop. -/
theorem post_reads (W : Valuation τ sig (Elt Ideal)) : afterL postI W (Proc.devRef .tc main_v45)
    = shapeCast S8x4x5000 (back (W (Proc.devRef .tc main_v27_9)) (W (Proc.devRef .tc main_v6)) (W (Proc.devRef .tc main_v5))) shapeCasts_S32x5000_S8x4x5000 := by
  simp only [afterL_cons, afterL_nil]
  after_reads_simp
  simp -implicitDefEqProofs only [TRef.ofBuf, TRef.toBuf, cast_cast, cast_eq]
  rfl

/-- A position in range stays. -/
theorem wrap_at (n : BitVec 32) (o : IVec S32x5000 32) (i : S32x5000.Idx) (b : Fin 5000) (h : o i = BitVec.ofNat 32 b.val) :
    (wrap n o i).toInt = b.val := by
  have e : IntOp.cmpi .slt (o i) 0#32 = 0#1 := by
    have e : IntOp.cmpi .slt (o i) 0#32 = BitVec.ofBool (decide ((o i).toInt < (0#32 : BitVec 32).toInt)) := rfl
    rw [e, h, Host.toInt_pos, decide_eq_false (by simp)]; rfl
  have u : wrap n o i = if IntOp.cmpi .slt (o i) 0#32 = 1#1 then o i + n else o i := rfl
  rw [u, e, if_neg (by decide), h, Host.toInt_pos]

/-- The cells written are the permutation's. -/
theorem cells_at (o : IVec S32x5000 32) (σ : Fin 32 → Fin 5000 → Fin 5000)
    (h : ∀ p n, o (ix2 p n) = BitVec.ofNat 32 (σ p n).val) (p : Fin 32) (n : Fin 5000) :
    (cells o (ix3 p n 0)).toInt = p.val ∧ (cells o (ix3 p n 1)).toInt = (σ p n).val := by
  have e0 : cells o (ix3 p n 0) = wrap 32#32 (iotaInDim S32x5000 32 0) (ix2 p n) := by
    pointwise [cells]
  have e1 : cells o (ix3 p n 1) = wrap 5000#32 o (ix2 p n) := by
    pointwise [cells]
  rw [e0, e1]
  exact ⟨wrap_at 32#32 _ _ ⟨p.val, lt_trans p.isLt (by decide)⟩ rfl, wrap_at 5000#32 o _ _ (h p n)⟩

/-- The write back, read at the position of a permutation. -/
theorem back_at (k : IVec S32x5000 1) (s : FVec Ideal S32x5000 .f32) (o : IVec S32x5000 32) (σ : Fin 32 → Fin 5000 → Fin 5000)
    (h : IsPerm o σ) (p : Fin 32) (n : Fin 5000) : back k s o (ix2 p (σ p n)) = if k (ix2 p n) = 1#1 then s (ix2 p n) else 0 := by
  have hl : ∀ (a : Fin 32) (b : Fin 5000), scatter_S32x5000_S32x5000x2_S32x5000_n_01_01_2.resultIdx? (ix2 a b) (cells o) = some (ix2 p (σ p n))
      ↔ a = p ∧ σ a b = σ p n := fun a b => by
    refine (Routing.scatter_lands2 _ rfl rfl rfl (cells o) a b p (σ p n)).trans ?_
    have c0 : (cells o (ValueIdx.ix3 a b 0)).toInt = a.val := (cells_at o σ h.2 a b).1
    have c1 : (cells o (ValueIdx.ix3 a b 1)).toInt = (σ a b).val := (cells_at o σ h.2 a b).2
    rw [c0, c1]
    exact and_congr (by rw [Fin.ext_iff]; exact Int.natCast_inj) (by rw [Fin.ext_iff]; exact Int.natCast_inj)
  have hz : ∀ i, select k s zeros i = if k i = 1#1 then s i else 0 := fun i => by
    have e : zeros i = 0 := by pointwise [zeros]
    show (if k i = 1#1 then s i else zeros i) = _
    rw [e]
  rw [← hz]
  refine Routing.scatter_set_hit scatter_S32x5000_S32x5000x2_S32x5000_n_01_01_2 zeros (cells o) (select k s zeros) _ _ (fun i hi => ?_) (ix2 p n) ((hl p n).2 ⟨rfl, rfl⟩)
  obtain ⟨a, b, rfl⟩ : ∃ a b, i = ix2 a b := ⟨i 0, i 1, by funext d; match d with | ⟨0, _⟩ => rfl | ⟨1, _⟩ => rfl⟩
  obtain ⟨rfl, hb⟩ := (hl a b).1 hi
  rw [(h.1 a).1 hb]

end Cert.Proof.ReferenceIdeal
-- ==== Proof.KeepPay.lean ====
/- The kernel's payloads at the reals, each read at an index. -/
module

public import proofs.«01_k».proof.Proof.Body
public import proofs.«01_k».proof.Proof.Nms
public import Idealize.ShloMosaic.Lib.Pointwise
public import Idealize.ShloMosaic.Lib.IdealHost
public import Idealize.ShloMosaic.Lib.WordCmp

@[expose] public section

set_option maxRecDepth 16384

noncomputable section

namespace Cert.Proof.KernelIdeal

open Cert.KernelIdeal Cert.KernelIdeal.Gen Cert.Nms
open Idealize.ShloMosaic Idealize.ShloMosaic.TcCoe Idealize.SL.Sem

/-! ## The two named constants and the words -/

theorem named_thr : (Named.named κ "folded_thr" 0x3E9EE584#32 : Ideal .f32) = cf := rfl
theorem named_big : (Named.named κ "big" 0x7149F2CA#32 : Ideal .f32) = ⊤ := rfl
theorem ofBits_bot : Ideal.ofBits .f32 0xFF800000#32 = ⊥ := by simp [Ideal.ofBits, Ideal.ieee]

variable (x1 y1 x2 y2 a s b : FVec Ideal S32x128 .f32)

/-! ## The payloads -/

theorem mask_at (p : Fin 32) (i j : Fin 128) :
    k0_pay17 (F := Ideal) k0_pay2 (k0_pay12 a) (k0_pay13 a s) (k0_pay14 x1 x2) (k0_pay15 y2) (k0_pay16 y1) (ix3 p i j : S32x128x128.Idx)
      = ind (i < j ∧ 0 < max (min (x2 (ix2 p i)) (x2 (ix2 p j)) - max (x1 (ix2 p i)) (x1 (ix2 p j))) 0
          * (min (y2 (ix2 p i)) (y2 (ix2 p j)) - max (y1 (ix2 p i)) (y1 (ix2 p j)))
          - (gate (a (ix2 p i)) (s (ix2 p i)) + cf * a (ix2 p j))) := by
  pointwise [k0_pay17, k0_pay2, k0_pay12, k0_pay13, k0_pay14, k0_pay15, k0_pay16, k0_pay8, k0_pay9, k0_pay10, k0_pay11, named_thr, named_big]
  simp (disch := word_cmp_side) only [hlo_ix]
  refine (ind_if _).symm.trans (congrArg ind (propext ?_))
  exact and_comm

/-- Some box of the block has a positive excess over the lane. -/
theorem max_pos (g1 g2 g3 g4 g5 : FVec Ideal S32x128x1 .f32) (p : Fin 32) (j : Fin 128) :
    0 < k0_pay4 g1 g2 g3 g4 g5 x1 y1 x2 y2 a (ix2 p j : S32x128.Idx)
      ↔ ∃ i : Fin 128, 0 < max (min (g3 (ix3 p i 0)) (x2 (ix2 p j)) - max (g1 (ix3 p i 0)) (x1 (ix2 p j))) 0
          * (min (g4 (ix3 p i 0)) (y2 (ix2 p j)) - max (g2 (ix3 p i 0)) (y1 (ix2 p j))) - (g5 (ix3 p i 0) + cf * a (ix2 p j)) := by
  pointwise [k0_pay4, named_thr]
  rw [Finset.lt_fold_max, ofBits_bot]
  simp

theorem new_at (v : FVec Ideal S32x128 .f32) (p : Fin 32) (j : Fin 128) :
    k0_pay102 v (k0_pay5 b) (Scalar.ofBits .f32 0x00000000#32) (ix2 p j : S32x128.Idx) = if 0 < v (ix2 p j) then 0 else b (ix2 p j) := by
  pointwise [k0_pay102, k0_pay5]

theorem last_at (b pe o : FVec Ideal S32x128 .f32) (p : Fin 32) (j : Fin 128) :
    k0_pay96 b pe o (ix2 p j : S32x128.Idx) = b (ix2 p j) * (1 - pe (ix2 p j) * o (ix2 p j)) := by
  pointwise [k0_pay96]

theorem eaa_at (b pe o : FVec Ideal S32x128 .f32) (p : Fin 32) (i : Fin 128) :
    k0_pay101 (k0_pay13 a s) b pe o (ix3 p i 0 : S32x128x1.Idx)
      = if 0 < k0_pay96 b pe o (ix2 p i : S32x128.Idx) then gate (a (ix2 p i)) (s (ix2 p i)) else ⊤ := by
  pointwise [k0_pay101, k0_pay13, k0_pay12, named_thr, named_big]
  rfl

theorem ex1_at (p : Fin 32) (i : Fin 128) : k0_pay97 (k0_pay8 b) (ix3 p i 0 : S32x128x1.Idx) = b (ix2 p i) := by
  pointwise [k0_pay97, k0_pay8]
theorem ey1_at (p : Fin 32) (i : Fin 128) : k0_pay98 (k0_pay9 b) (ix3 p i 0 : S32x128x1.Idx) = b (ix2 p i) := by
  pointwise [k0_pay98, k0_pay9]
theorem ex2_at (p : Fin 32) (i : Fin 128) : k0_pay99 (k0_pay10 b) (ix3 p i 0 : S32x128x1.Idx) = b (ix2 p i) := by
  pointwise [k0_pay99, k0_pay10]
theorem ey2_at (p : Fin 32) (i : Fin 128) : k0_pay100 (k0_pay11 b) (ix3 p i 0 : S32x128x1.Idx) = b (ix2 p i) := by
  pointwise [k0_pay100, k0_pay11]

theorem first_at (r0 r1 : Vec Ideal S32x1x128 .f32) (p : Fin 32) (j : Fin 128) :
    k0_pay18 b r0 r1 (ix2 p j : S32x128.Idx) = b (ix2 p j) * (1 - r0 (ix3 p 0 j) * b (ix2 p 0)) *
      (1 - r1 (ix3 p 0 j) * (b (ix2 p 1) * (1 - r0 (ix3 p 0 1) * b (ix2 p 0)))) := by
  pointwise [k0_pay18]

theorem second_at (r : Vec Ideal S32x1x128 .f32) (p : Fin 32) (j : Fin 128) : k0_pay19 r (ix2 p j : S32x128.Idx) = r (ix3 p 0 j) := by
  pointwise [k0_pay19]

theorem firstCol_at (r0 r1 : Vec Ideal S32x1x128 .f32) (p : Fin 32) (j : Fin 128) :
    k0_pay20 b r0 r1 (ix2 p j : S32x128.Idx) = k0_pay18 b r0 r1 (ix2 p 2) := by
  pointwise [k0_pay20]

theorem applyRow_at (b pe o : FVec Ideal S32x128 .f32) (p : Fin 32) (j : Fin 128) :
    applyRow b pe o (ix2 p j : S32x128.Idx) = b (ix2 p j) * (1 - pe (ix2 p j) * o (ix2 p j)) := by
  pointwise [applyRow]

theorem colOf_at (i : ℕ) (h : i < 128) (p : Fin 32) (j : Fin 128) : colOf i h b (ix2 p j : S32x128.Idx) = b (ix2 p ⟨i, h⟩) := by
  pointwise [colOf]

theorem rowOf_at (r : Vec Ideal S32x1x128 .f32) (p : Fin 32) (j : Fin 128) : rowOf r (ix2 p j : S32x128.Idx) = r (ix3 p 0 j) := by
  pointwise [rowOf]

end Cert.Proof.KernelIdeal
-- ==== Proof.Keep.lean ====
/- What the kernel leaves in its result, at the reals: entry `j` of row `p` is one where box `j` is kept by the greedy
   recursion, zero where it is not. -/
module

public import proofs.«01_k».proof.Proof.KeepPay

@[expose] public section

set_option maxRecDepth 16384

noncomputable section

namespace Cert.Proof.KernelIdeal

open Cert.KernelIdeal Cert.KernelIdeal.Gen Cert.Nms
open Idealize.ShloMosaic Idealize.ShloMosaic.TcCoe Idealize.SL.Sem

/-- Entry `n` of row `p`, zero past the row's end. -/
def cell (X : Vec Ideal S32x5120 .f32) (p : Fin 32) (n : ℕ) : EReal := if h : n < 5120 then X (ix2 p ⟨n, h⟩) else 0

theorem cell_of_lt (X : Vec Ideal S32x5120 .f32) (p : Fin 32) (n : ℕ) (h : n < 5120) : cell X p n = X (ix2 p ⟨n, h⟩) := dif_pos h

/-! ## Windows -/

theorem trips1 : k0_t1_loop.trips = 40 := by decide +kernel
theorem trips2 : ∀ t : Fin k0_t1_loop.trips, (k0_t2_loop t).trips = 39 - t.val := by decide +kernel

theorem window_at (X : Vec Ideal S32x5120 .f32) (off : Fin 2 → ℕ) (inb : ∀ a, off a + S32x128.size a ≤ S32x5120.size a) (o : ℕ) (e : off = ![0, o])
    (p : Fin 32) (j : Fin 128) :
    (VecWindow.window (α := Elt Ideal .f32) (s := S32x5120) X off S32x128.size inb : Vec Ideal S32x128 .f32) (ix2 p j) = cell X p (o + j) := by
  subst e
  have hb : o + 128 ≤ 5120 := inb 1
  rw [cell_of_lt X p _ (by omega)]
  refine congrArg X (funext fun a => ?_)
  fin_cases a
  · exact Fin.ext (show 0 + 1 * p.val = p.val by omega)
  · exact Fin.ext (show o + 1 * j.val = o + j.val by omega)

theorem put_at (X : Vec Ideal S32x5120 .f32) (off : Fin 2 → ℕ) (o : ℕ) (e : off = ![0, o]) (w : Vec Ideal S32x128 .f32) (p : Fin 32) (j : Fin 5120) :
    (VecWindow.put (α := Elt Ideal .f32) (s := S32x5120) X off S32x128.size w : Vec Ideal S32x5120 .f32) (ix2 p j)
      = if h : o ≤ j.val ∧ j.val < o + 128 then w (ix2 p ⟨j.val - o, by omega⟩) else X (ix2 p j) := by
  subst e
  unfold VecWindow.put
  by_cases h : o ≤ j.val ∧ j.val < o + 128
  · have h' : ∀ a, (![0, o] : Fin 2 → ℕ) a ≤ ((ix2 p j : S32x5120.Idx) a).val ∧ ((ix2 p j : S32x5120.Idx) a).val < (![0, o] : Fin 2 → ℕ) a + S32x128.size a := by
      intro a; fin_cases a
      · exact ⟨Nat.zero_le _, (show p.val < 0 + 32 by omega)⟩
      · exact h
    rw [dif_pos h, dif_pos h']
    refine congrArg w (funext fun a => ?_)
    fin_cases a
    · exact Fin.ext (show p.val - 0 = p.val by omega)
    · exact Fin.ext rfl
  · rw [dif_neg h, dif_neg fun h' => h (h' 1)]

theorem W1_at (t : Fin k0_t1_loop.trips) (X : Vec Ideal S32x5120 .f32) (p : Fin 32) (j : Fin 128) : W1 t X (ix2 p j) = cell X p (128 * t.val + j) :=
  window_at X _ _ _ (k0_off1_eq t) p j
theorem W2_at (t : Fin k0_t1_loop.trips) (n : Fin (k0_t2_loop t).trips) (X : Vec Ideal S32x5120 .f32) (p : Fin 32) (j : Fin 128) :
    W2 t n X (ix2 p j) = cell X p (128 * t.val + 128 * n.val + 128 + j) :=
  window_at X _ _ _ (k0_off2_eq t n) p j

theorem rowAt_at (M : FVec Ideal S32x128x128 .f32) (i : ℕ) (h : i < 128) (p : Fin 32) (j : Fin 128) : rowAt M i h (ix3 p 0 j) = M (ix3 p ⟨i, h⟩ j) := by
  refine congrArg M (funext fun a => ?_)
  fin_cases a
  · exact Fin.ext (show 0 + 1 * p.val = p.val by omega)
  · exact Fin.ext (show i + 1 * 0 = i by omega)
  · exact Fin.ext (show 0 + 1 * j.val = j.val by omega)

/-! ## One block -/

variable (X0 X1 X2 X3 X4 X5 : Vec Ideal S32x5120 .f32)

/-- Box `i` of row `p` hits box `j`. -/
def Hit (p : Fin 32) (i j : ℕ) : Prop := Hits (cell X0 p) (cell X1 p) (cell X2 p) (cell X3 p) (cell X4 p) (cell X5 p) i j

/-- The kept boxes of row `p`. -/
abbrev K (p : Fin 32) (n j : ℕ) : Prop := Kept (Hit X0 X1 X2 X3 X4 X5 p) n j

theorem maskOf_at (t : Fin k0_t1_loop.trips) (p : Fin 32) (i j : Fin 128) :
    maskOf X0 X1 X2 X3 X4 X5 t (ix3 p i j : S32x128x128.Idx) = ind (i < j ∧ Hit X0 X1 X2 X3 X4 X5 p (128 * t.val + i) (128 * t.val + j)) := by
  refine (mask_at _ _ _ _ _ _ p i j).trans ?_
  simp only [W1_at]
  rfl

/-- The chain before row `i` is applied. -/
def Chain (t : Fin k0_t1_loop.trips) (i : ℕ) (h : i < 128) (s : Carry Ideal) : Prop :=
  ∀ (p : Fin 32) (j : Fin 128), s.1 (ix2 p j) = ind (K X0 X1 X2 X3 X4 X5 p (128 * t.val + i) (128 * t.val + j))
    ∧ s.2.1 (ix2 p j) = maskOf X0 X1 X2 X3 X4 X5 t (ix3 p ⟨i, h⟩ j : S32x128x128.Idx)
    ∧ s.2.2 (ix2 p j) = ind (K X0 X1 X2 X3 X4 X5 p (128 * t.val + i) (128 * t.val + i))

/-- One row of the chain, as numbers. -/
theorem chain_step (t : Fin k0_t1_loop.trips) (p : Fin 32) (i : Fin 128) (j : Fin 128) (n : ℕ) (hn : n = i.val) :
    ind (K X0 X1 X2 X3 X4 X5 p (128 * t.val + n) (128 * t.val + j))
        * (1 - maskOf X0 X1 X2 X3 X4 X5 t (ix3 p i j : S32x128x128.Idx) * ind (K X0 X1 X2 X3 X4 X5 p (128 * t.val + n) (128 * t.val + n)))
      = ind (K X0 X1 X2 X3 X4 X5 p (128 * t.val + (n + 1)) (128 * t.val + j)) := by
  subst hn
  rw [maskOf_at, ind_step]
  refine congrArg ind (propext ?_)
  have e : i < j ↔ 128 * t.val + i.val < 128 * t.val + j.val := by rw [Fin.lt_def]; omega
  rw [e, and_assoc]
  exact Iff.rfl

theorem chain_apply (t : Fin k0_t1_loop.trips) (i : ℕ) (h : i < 128) (s : Carry Ideal) (hs : Chain X0 X1 X2 X3 X4 X5 t i h s) (p : Fin 32) (j : Fin 128) :
    s.1 (ix2 p j) * (1 - s.2.1 (ix2 p j) * s.2.2 (ix2 p j)) = ind (K X0 X1 X2 X3 X4 X5 p (128 * t.val + (i + 1)) (128 * t.val + j)) := by
  rw [(hs p j).1, (hs p j).2.1, (hs p j).2.2]
  exact chain_step X0 X1 X2 X3 X4 X5 t p ⟨i, h⟩ j i rfl

theorem chain_next (t : Fin k0_t1_loop.trips) (i : ℕ) (h : i + 1 < 128) (s : Carry Ideal) (hs : Chain X0 X1 X2 X3 X4 X5 t i (by omega) s) :
    Chain X0 X1 X2 X3 X4 X5 t (i + 1) h (nextRow (i + 1) h s (rowAt (maskOf X0 X1 X2 X3 X4 X5 t) (i + 1) h)) := by
  intro p j
  refine ⟨?_, ?_, ?_⟩
  · exact (applyRow_at _ _ _ p j).trans (chain_apply X0 X1 X2 X3 X4 X5 t i (by omega) s hs p j)
  · exact (rowOf_at _ p j).trans (rowAt_at (maskOf X0 X1 X2 X3 X4 X5 t) _ h p j)
  · exact (colOf_at _ _ h p j).trans ((applyRow_at _ _ _ p _).trans (chain_apply X0 X1 X2 X3 X4 X5 t i (by omega) s hs p ⟨i + 1, h⟩))

theorem chain_rows (t : Fin k0_t1_loop.trips) (n i : ℕ) (h : (i + 1) + n ≤ 128) (s : Carry Ideal) (hs : Chain X0 X1 X2 X3 X4 X5 t i (by omega) s) :
    Chain X0 X1 X2 X3 X4 X5 t (i + n) (by omega) (rows (maskOf X0 X1 X2 X3 X4 X5 t) n (i + 1) h s) := by
  induction n generalizing i s with
  | zero => exact hs
  | succ n ih =>
    have := ih (i + 1) (by omega) _ (chain_next X0 X1 X2 X3 X4 X5 t i (by omega) s hs)
    unfold rows
    have e : i + (n + 1) = i + 1 + n := by omega
    simp only [e]
    exact this

/-- The keep entries `x` after the boxes below `n`, from column `n` on and before. -/
def Settled (n : ℕ) (x : Vec Ideal S32x5120 .f32) : Prop := ∀ (p : Fin 32) (j : Fin 5120), x (ix2 p j) = ind (K X0 X1 X2 X3 X4 X5 p n j)

theorem chain_first (t : Fin k0_t1_loop.trips) (x : Vec Ideal S32x5120 .f32) (hx : Settled X0 X1 X2 X3 X4 X5 (128 * t.val) x) :
    Chain X0 X1 X2 X3 X4 X5 t 2 (by decide) (carry3 (maskOf X0 X1 X2 X3 X4 X5 t) (W1 t x)) := by
  have ht : t.val < 40 := trips1 ▸ t.isLt
  have h0 : ∀ (p : Fin 32) (j : Fin 128), W1 t x (ix2 p j) = ind (K X0 X1 X2 X3 X4 X5 p (128 * t.val + 0) (128 * t.val + j)) := fun p j => by
    rw [W1_at, cell_of_lt _ _ _ (by omega)]; exact hx p _
  have h1 : ∀ (p : Fin 32) (j : Fin 128), W1 t x (ix2 p j) * (1 - maskOf X0 X1 X2 X3 X4 X5 t (ix3 p 0 j : S32x128x128.Idx) * W1 t x (ix2 p 0))
      = ind (K X0 X1 X2 X3 X4 X5 p (128 * t.val + 1) (128 * t.val + j)) := fun p j => by
    rw [h0, h0]; exact chain_step X0 X1 X2 X3 X4 X5 t p 0 j 0 rfl
  have h2 : ∀ (p : Fin 32) (j : Fin 128), k0_pay18 (W1 t x) (rowAt (maskOf X0 X1 X2 X3 X4 X5 t) 0 (by decide)) (rowAt (maskOf X0 X1 X2 X3 X4 X5 t) 1 (by decide)) (ix2 p j : S32x128.Idx)
      = ind (K X0 X1 X2 X3 X4 X5 p (128 * t.val + 2) (128 * t.val + j)) := fun p j => by
    refine (first_at _ _ _ p j).trans ?_
    rw [rowAt_at, rowAt_at, rowAt_at]
    refine Eq.trans ?_ (chain_step X0 X1 X2 X3 X4 X5 t p 1 j 1 rfl)
    have h11 : W1 t x (ix2 p 1) * (1 - maskOf X0 X1 X2 X3 X4 X5 t (ix3 p 0 1 : S32x128x128.Idx) * W1 t x (ix2 p 0))
        = ind (K X0 X1 X2 X3 X4 X5 p (128 * t.val + 1) (128 * t.val + 1)) := h1 p 1
    rw [← h1, ← h11]
    rfl
  intro p j
  exact ⟨h2 p j, (second_at _ p j).trans (rowAt_at (maskOf X0 X1 X2 X3 X4 X5 t) 2 (by decide) p j), (firstCol_at _ _ _ p j).trans (h2 p 2)⟩

theorem carryOf_chain (t : Fin k0_t1_loop.trips) (x : Vec Ideal S32x5120 .f32) (hx : Settled X0 X1 X2 X3 X4 X5 (128 * t.val) x) :
    Chain X0 X1 X2 X3 X4 X5 t 127 (by decide) (carryOf X0 X1 X2 X3 X4 X5 t x) :=
  chain_rows X0 X1 X2 X3 X4 X5 t 125 2 (by decide) _ (chain_first X0 X1 X2 X3 X4 X5 t x hx)

/-- The block's own keep entries after its 128 rows. -/
theorem block_at (t : Fin k0_t1_loop.trips) (s : Carry Ideal) (hs : Chain X0 X1 X2 X3 X4 X5 t 127 (by decide) s) (p : Fin 32) (j : Fin 128) :
    k0_pay96 s.1 s.2.1 s.2.2 (ix2 p j : S32x128.Idx) = ind (K X0 X1 X2 X3 X4 X5 p (128 * t.val + 128) (128 * t.val + j)) :=
  (last_at _ _ _ p j).trans (chain_apply X0 X1 X2 X3 X4 X5 t 127 (by decide) s hs p j)

/-! ## The later blocks -/

variable (h4 : ∀ p n, 0 ≤ cell X4 p n)

include h4 in
/-- A lane of a later block is cleared exactly where some kept box of this block hits it. -/
theorem later_pos (t : Fin k0_t1_loop.trips) (s : Carry Ideal) (hs : Chain X0 X1 X2 X3 X4 X5 t 127 (by decide) s)
    (n : Fin (k0_t2_loop t).trips) (p : Fin 32) (j : Fin 128) :
    0 < k0_pay4 (colsOf X0 X1 X2 X3 X4 X5 t s).1 (colsOf X0 X1 X2 X3 X4 X5 t s).2.1 (colsOf X0 X1 X2 X3 X4 X5 t s).2.2.1 (colsOf X0 X1 X2 X3 X4 X5 t s).2.2.2.1
          (colsOf X0 X1 X2 X3 X4 X5 t s).2.2.2.2 (W2 t n X0) (W2 t n X1) (W2 t n X2) (W2 t n X3) (W2 t n X4) (ix2 p j : S32x128.Idx)
      ↔ ∃ i < 128, Hit X0 X1 X2 X3 X4 X5 p (128 * t.val + i) (128 * t.val + 128 * n.val + 128 + j)
          ∧ K X0 X1 X2 X3 X4 X5 p (128 * t.val + i) (128 * t.val + i) := by
  rw [max_pos]
  have e : ∀ i : Fin 128, (colsOf X0 X1 X2 X3 X4 X5 t s).2.2.2.2 (ix3 p i 0 : S32x128x1.Idx)
      = (open Classical in if K X0 X1 X2 X3 X4 X5 p (128 * t.val + i) (128 * t.val + i) then gate (cell X4 p (128 * t.val + i)) (cell X5 p (128 * t.val + i)) else ⊤) := fun i => by
    refine (eaa_at _ _ _ _ _ p i).trans ?_
    rw [W1_at, W1_at, block_at X0 X1 X2 X3 X4 X5 t s hs]
    have hk := (ind_pos _).trans (kept_of_le (H := Hit X0 X1 X2 X3 X4 X5 p) (by omega : 128 * t.val + i.val ≤ 128 * t.val + 128))
    by_cases h : K X0 X1 X2 X3 X4 X5 p (128 * t.val + i) (128 * t.val + i)
    · exact (if_pos (hk.2 h)).trans (if_pos h).symm
    · exact (if_neg fun h' => h (hk.1 h')).trans (if_neg h).symm
  have e1 : ∀ i : Fin 128, (colsOf X0 X1 X2 X3 X4 X5 t s).1 (ix3 p i 0 : S32x128x1.Idx) = cell X0 p (128 * t.val + i) := fun i => (ex1_at _ p i).trans (W1_at ..)
  have e2 : ∀ i : Fin 128, (colsOf X0 X1 X2 X3 X4 X5 t s).2.1 (ix3 p i 0 : S32x128x1.Idx) = cell X1 p (128 * t.val + i) := fun i => (ey1_at _ p i).trans (W1_at ..)
  have e3 : ∀ i : Fin 128, (colsOf X0 X1 X2 X3 X4 X5 t s).2.2.1 (ix3 p i 0 : S32x128x1.Idx) = cell X2 p (128 * t.val + i) := fun i => (ex2_at _ p i).trans (W1_at ..)
  have e4 : ∀ i : Fin 128, (colsOf X0 X1 X2 X3 X4 X5 t s).2.2.2.1 (ix3 p i 0 : S32x128x1.Idx) = cell X3 p (128 * t.val + i) := fun i => (ey2_at _ p i).trans (W1_at ..)
  simp only [e, e1, e2, e3, e4, W2_at]
  have key : ∀ i : Fin 128, (open Classical in 0 < max (min (cell X2 p (128 * t.val + i)) (cell X2 p (128 * t.val + 128 * n.val + 128 + j)) - max (cell X0 p (128 * t.val + i)) (cell X0 p (128 * t.val + 128 * n.val + 128 + j))) 0
        * (min (cell X3 p (128 * t.val + i)) (cell X3 p (128 * t.val + 128 * n.val + 128 + j)) - max (cell X1 p (128 * t.val + i)) (cell X1 p (128 * t.val + 128 * n.val + 128 + j)))
        - ((if K X0 X1 X2 X3 X4 X5 p (128 * t.val + i) (128 * t.val + i) then gate (cell X4 p (128 * t.val + i)) (cell X5 p (128 * t.val + i)) else ⊤)
          + cf * cell X4 p (128 * t.val + 128 * n.val + 128 + j)))
      ↔ (Hit X0 X1 X2 X3 X4 X5 p (128 * t.val + i) (128 * t.val + 128 * n.val + 128 + j) ∧ K X0 X1 X2 X3 X4 X5 p (128 * t.val + i) (128 * t.val + i)) := fun i => by
    by_cases hk : K X0 X1 X2 X3 X4 X5 p (128 * t.val + i) (128 * t.val + i)
    · rw [if_pos hk, and_iff_left hk]; rfl
    · rw [if_neg hk]
      exact iff_of_false (not_pos_of_top _ (cf_mul_nonneg (h4 _ _))) fun h => hk h.2
  constructor
  · rintro ⟨i, hi⟩; exact ⟨i.val, i.isLt, (key i).1 hi⟩
  · rintro ⟨i, hi, h⟩; exact ⟨⟨i, hi⟩, (key ⟨i, hi⟩).2 h⟩

include h4 in
/-- The keep entries after `n` later blocks were filtered. -/
theorem laters_at (t : Fin k0_t1_loop.trips) (s : Carry Ideal) (hs : Chain X0 X1 X2 X3 X4 X5 t 127 (by decide) s) (x : Vec Ideal S32x5120 .f32)
    (hx : ∀ (p : Fin 32) (j : Fin 5120), x (ix2 p j) = ind (K X0 X1 X2 X3 X4 X5 p (if j.val < 128 * t.val + 128 then 128 * t.val + 128 else 128 * t.val) j))
    (n : ℕ) (hn : n ≤ (k0_t2_loop t).trips) (p : Fin 32) (j : Fin 5120) :
    laters X0 X1 X2 X3 X4 (colsOf X0 X1 X2 X3 X4 X5 t s) t x n (ix2 p j)
      = ind (K X0 X1 X2 X3 X4 X5 p (if j.val < 128 * t.val + 128 * n + 128 then 128 * t.val + 128 else 128 * t.val) j) := by
  induction n generalizing p j with
  | zero => exact hx p j
  | succ n ih =>
    have ih := ih (by omega)
    rw [laters_succ X0 X1 X2 X3 X4 _ t x ⟨n, hn⟩, later]
    refine (put_at _ _ _ (k0_off2_eq t ⟨n, hn⟩) _ p j).trans ?_
    by_cases hj : 128 * t.val + 128 * n + 128 ≤ j.val ∧ j.val < 128 * t.val + 128 * n + 128 + 128
    · rw [dif_pos hj]
      refine (new_at _ _ p _).trans ?_
      have hif : (if j.val < 128 * t.val + 128 * (n + 1) + 128 then 128 * t.val + 128 else 128 * t.val) = 128 * t.val + 128 := if_pos (by omega)
      rw [hif]
      have hv : 128 * t.val + 128 * n + 128 + (j.val - (128 * t.val + 128 * n + 128)) = j.val := by omega
      have hlp := later_pos X0 X1 X2 X3 X4 X5 h4 t s hs ⟨n, hn⟩ p ⟨j.val - (128 * t.val + 128 * n + 128), by omega⟩
      have hw : W2 t ⟨n, hn⟩ (laters X0 X1 X2 X3 X4 (colsOf X0 X1 X2 X3 X4 X5 t s) t x n) (ix2 p ⟨j.val - (128 * t.val + 128 * n + 128), by omega⟩) = ind (K X0 X1 X2 X3 X4 X5 p (128 * t.val) j) := by
        rw [W2_at]
        simp only [hv]
        rw [cell_of_lt _ _ _ j.isLt]
        refine (ih p j).trans ?_
        rw [if_neg (by omega)]
      simp only [hv] at hlp
      rw [K, kept_block (128 * t.val) 128 j.val (by omega)]
      split_ifs with hp
      · have := hlp.1 hp
        rw [ind_false (fun h => h.2 this)]
      · refine hw.trans (congrArg ind (propext ?_))
        exact (and_iff_left fun h => hp (hlp.2 h)).symm
    · rw [dif_neg hj]
      refine (ih p j).trans ?_
      congr 2
      by_cases hc : j.val < 128 * t.val + 128 * n + 128
      · rw [if_pos hc, if_pos (by omega)]
      · rw [if_neg hc, if_neg (by omega)]

include h4 in
theorem outer_settled (t : Fin k0_t1_loop.trips) (x : Vec Ideal S32x5120 .f32) (hx : Settled X0 X1 X2 X3 X4 X5 (128 * t.val) x) :
    Settled X0 X1 X2 X3 X4 X5 (128 * (t.val + 1)) (outer X0 X1 X2 X3 X4 X5 t x) := by
  have ht : t.val < 40 := trips1 ▸ t.isLt
  have hs := carryOf_chain X0 X1 X2 X3 X4 X5 t x hx
  intro p j
  refine (laters_at X0 X1 X2 X3 X4 X5 h4 t _ hs _ ?_ _ le_rfl p j).trans ?_
  · intro p j
    refine (put_at _ _ _ (k0_off1_eq t) _ p j).trans ?_
    by_cases hj : 128 * t.val ≤ j.val ∧ j.val < 128 * t.val + 128
    · rw [dif_pos hj, if_pos hj.2]
      refine (block_at X0 X1 X2 X3 X4 X5 t _ hs p _).trans ?_
      have hv : 128 * t.val + (j.val - 128 * t.val) = j.val := by omega
      simp only [hv]
    · rw [dif_neg hj, hx p j]
      refine congrArg ind (propext ?_)
      by_cases hc : j.val < 128 * t.val + 128
      · rw [if_pos hc, K, K, kept_of_le (by omega : j.val ≤ 128 * t.val), kept_of_le (by omega : j.val ≤ 128 * t.val + 128)]
      · rw [if_neg hc]
  · have := trips2 t
    rw [if_pos (by omega)]
    rfl

include h4 in
theorem outers_settled (x : Vec Ideal S32x5120 .f32) (hx : Settled X0 X1 X2 X3 X4 X5 0 x) (n : ℕ) (hn : n ≤ k0_t1_loop.trips) :
    Settled X0 X1 X2 X3 X4 X5 (128 * n) (outers X0 X1 X2 X3 X4 X5 x n) := by
  induction n with
  | zero => exact hx
  | succ n ih =>
    rw [outers_succ X0 X1 X2 X3 X4 X5 x ⟨n, hn⟩]
    exact outer_settled X0 X1 X2 X3 X4 X5 h4 ⟨n, hn⟩ _ (ih (by omega))

include h4 in
/-- The kernel's result. -/
theorem keepOf_at (p : Fin 32) (j : Fin 5120) : keepOf X0 X1 X2 X3 X4 X5 (ix2 p j) = ind (K X0 X1 X2 X3 X4 X5 p 5120 j) := by
  have h := outers_settled X0 X1 X2 X3 X4 X5 h4 (k0_pay1 (F := Ideal)) (fun p j => by
    refine Eq.trans ?_ (ind_true trivial).symm
    pointwise [k0_pay1]) _ le_rfl p j
  rw [trips1] at h
  exact h

end Cert.Proof.KernelIdeal
-- ==== Proof.Same.lean ====
/- The kernel's and the reference's results at an entry, and why they are equal. -/
module

public import proofs.«01_k».proof.Proof.RefHost
public import proofs.«01_k».proof.Proof.Keep

@[expose] public section

set_option maxRecDepth 16384

noncomputable section

namespace Cert.Proof.Same

open Cert.KernelIdeal Cert.KernelIdeal.Gen Cert.Nms
open Idealize.ShloMosaic Idealize.ShloMosaic.TcCoe Idealize.SL.Sem
open Cert.Proof.Host (score order take boxes takeBoxes bx1 by1 bx2 by2 zeros sorted IsPerm padded)

theorem zeros_at (i : S32x5000.Idx) : zeros i = 0 := by pointwise [zeros]

/-- A padded row is the row, and zero beyond. -/
theorem padded_cell (x : FVec Ideal S32x5000 .f32) (p : Fin 32) : KernelIdeal.cell (padded x) p = ReferenceIdeal.cell x p := by
  funext n
  have e : ∀ h : n < 5120, padded x (ix2 p ⟨n, h⟩) = if h : n < 5000 then x (ix2 p ⟨n, h⟩) else 0 := fun h => by
    have z : FloatOps.sitofp (F := Ideal) .f32 (0#32) = 0 := by
      show (((0#32 : BitVec 32).toInt : ℝ) : EReal) = 0
      simp
    pointwise [padded]
    rw [z]
  unfold KernelIdeal.cell ReferenceIdeal.cell
  by_cases h : n < 5120
  · rw [dif_pos h, e h]
  · rw [dif_neg h, dif_neg (by omega)]

/-- The area of a box. -/
theorem area_at (b : FVec Ideal S32x5000x4 .f32) (i : S32x5000.Idx) :
    Host.areas b i = max (bx2 b i - bx1 b i : EReal) 0 * max (by2 b i - by1 b i : EReal) 0 := by
  have e : Host.areas b i = max (bx2 b i - bx1 b i : EReal) (zeros i) * max (by2 b i - by1 b i : EReal) (zeros i) := rfl
  rw [e, zeros_at]

/-- The two programs' areas. -/
theorem areas_eq (b : FVec Ideal S32x5000x4 .f32) : ReferenceIdeal.areas b = Host.areas b := by
  funext i
  have e : ReferenceIdeal.areas b i = max (zeros i) (bx2 b i - bx1 b i : EReal) * max (zeros i) (by2 b i - by1 b i : EReal) := rfl
  rw [e, area_at, zeros_at, max_comm, max_comm (0 : EReal) (by2 b i - by1 b i)]

/-- A box's area as the rows hold it. -/
theorem area_cell (b : FVec Ideal S32x5000x4 .f32) (p : Fin 32) (n : ℕ) :
    ReferenceIdeal.cell (Host.areas b) p n = max (ReferenceIdeal.cell (bx2 b) p n - ReferenceIdeal.cell (bx1 b) p n) 0
      * max (ReferenceIdeal.cell (by2 b) p n - ReferenceIdeal.cell (by1 b) p n) 0 := by
  unfold ReferenceIdeal.cell
  by_cases h : n < 5000
  · simp only [dif_pos h]
    exact area_at b _
  · simp only [dif_neg h]
    simp

/-- A row's areas are not negative. -/
theorem area_nonneg (b : FVec Ideal S32x5000x4 .f32) (p : Fin 32) (n : ℕ) : 0 ≤ KernelIdeal.cell (padded (Host.areas b)) p n := by
  rw [padded_cell, area_cell]
  exact mul_nonneg (le_max_right _ _) (le_max_right _ _)

variable (b : FVec Ideal S32x5000x4 .f32) (s : FVec Ideal S32x5000 .f32)

/-- The kernel's test and the reference's agree. -/
theorem hit_iff (p : Fin 32) (i j : ℕ) :
    KernelIdeal.Hit (padded (bx1 b)) (padded (by1 b)) (padded (bx2 b)) (padded (by2 b)) (padded (Host.areas b)) (padded s) p i j
      ↔ ReferenceIdeal.Hit (bx1 b) (by1 b) (bx2 b) (by2 b) (ReferenceIdeal.areas b) s p i j := by
  unfold KernelIdeal.Hit ReferenceIdeal.Hit
  simp only [padded_cell, areas_eq]
  exact hits_iff _ _ _ _ _ _ i j (area_cell b p i) (area_cell b p j)

/-- The kernel and the reference keep the same boxes. -/
theorem kept_iff (p : Fin 32) (n : Fin 5000) :
    KernelIdeal.K (padded (bx1 b)) (padded (by1 b)) (padded (bx2 b)) (padded (by2 b)) (padded (Host.areas b)) (padded s) p 5120 n.val
      ↔ Kept (ReferenceIdeal.Hit (bx1 b) (by1 b) (bx2 b) (by2 b) (ReferenceIdeal.areas b) s p) 5000 n.val := by
  have hn := n.isLt
  refine (kept_of_le (by omega : n.val ≤ 5120)).trans ((kept_of_le (by omega : n.val ≤ 5000)).symm.trans ?_)
  exact kept_congr 5000 (fun i _ j _ => hit_iff b s p i j) 5000 le_rfl n.val hn

/-- The scores kept, in the boxes' first order, as the kernel writes them. -/
theorem kernel_back (k : FVec Ideal S32x5120 .f32) (s : FVec Ideal S32x5000 .f32) (o : IVec S32x5000 32) (σ : Fin 32 → Fin 5000 → Fin 5000)
    (h : IsPerm o σ) (p : Fin 32) (n : Fin 5000) : Host.back k s o (ix2 p (σ p n))
      = if 0 < k (ix2 p ⟨n.val, lt_trans n.isLt (by decide)⟩) then s (ix2 p n) else 0 := by
  obtain ⟨ι, hι, hi⟩ := Host.sort_inv o σ h
  have hn : ι p (σ p n) = n := (h.1 p).1 (hi p (σ p n))
  unfold Host.back
  rw [Host.take_at _ _ ι hι.2, hn]
  have e : extractStridedSlice S32x5000 ![0, 0] k slices_S32x5120_S32x5000_0_0 (ix2 p n) = k (ix2 p ⟨n.val, lt_trans n.isLt (by decide)⟩) := by
    pointwise []
  have u : ∀ i, select (cmpf .ogt (extractStridedSlice S32x5000 ![0, 0] k slices_S32x5120_S32x5000_0_0) zeros) s zeros i
      = if BitVec.ofBool (decide ((zeros i : EReal) < extractStridedSlice S32x5000 ![0, 0] k slices_S32x5120_S32x5000_0_0 i)) = 1#1 then s i else zeros i := fun _ => rfl
  rw [u, e, zeros_at]
  by_cases hk : (0 : EReal) < k (ix2 p ⟨n.val, lt_trans n.isLt (by decide)⟩)
  · rw [if_pos hk, decide_eq_true hk]; rfl
  · rw [if_neg hk, decide_eq_false hk]; rfl

/-- The bit of a proposition is set where it holds. -/
theorem bit_eq_one {q : Prop} : ReferenceIdeal.bit q = 1#1 ↔ q := by
  unfold ReferenceIdeal.bit
  by_cases h : q <;> simp [h]

open Cert.Proof.KernelIdeal (keepOf keepOf_at) in
/-- The kernel's result row and the reference's, from the same boxes, scores and order. -/
theorem back_eq (o : IVec S32x5000 32) (σ : Fin 32 → Fin 5000 → Fin 5000) (h : IsPerm o σ) (k : IVec S32x5000 1)
    (hk : ∀ (p : Fin 32) (n : Fin 5000), k (ix2 p n)
      = ReferenceIdeal.bit (Kept (ReferenceIdeal.Hit (bx1 b) (by1 b) (bx2 b) (by2 b) (ReferenceIdeal.areas b) s p) 5000 n.val)) :
    Host.back (keepOf (F := Ideal) (padded (bx1 b)) (padded (by1 b)) (padded (bx2 b)) (padded (by2 b)) (padded (Host.areas b)) (padded s)) s o
      = ReferenceIdeal.back k s o := by
  funext i
  obtain ⟨p, j, rfl⟩ : ∃ (p : Fin 32) (j : Fin 5000), i = ix2 p j := ⟨i 0, i 1, by funext d; match d with | ⟨0, _⟩ => rfl | ⟨1, _⟩ => rfl⟩
  obtain ⟨n, rfl⟩ := (h.1 p).2 j
  rw [kernel_back _ s o σ h p n]
  refine Eq.trans ?_ (ReferenceIdeal.back_at k s o σ h p n).symm
  rw [keepOf_at _ _ _ _ _ _ (area_nonneg b), hk p n]
  have hi := kept_iff b s p n
  by_cases hK : Kept (ReferenceIdeal.Hit (bx1 b) (by1 b) (bx2 b) (by2 b) (ReferenceIdeal.areas b) s p) 5000 n.val
  · rw [if_pos ((ind_pos _).2 (hi.2 hK)), if_pos (bit_eq_one.2 hK)]
  · rw [if_neg fun q => hK (hi.1 ((ind_pos _).1 q)), if_neg fun q => hK (bit_eq_one.1 q)]

end Cert.Proof.Same
-- ==== Proof.Value.lean ====
/- The idealized kernel computes what the reference computes. -/
module

public import proofs.«01_k».proof.Proof.Same
public import proofs.«01_k».proof.Defs
public import Idealize.ShloMosaic.Lib.Pipeline.Value
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Cert.Proof.Host (bx1 by1 bx2 by2 padded orderAt scoreAt sortedAt areas V_reads back)

variable (m : (ℓ : Loc nD τ sig) → Buf (Elt Ideal) ℓ) (ρ : Dev nD → PrngReg)

/-- Every window's block is the first of its array. -/
theorem idx (t : Fin grid0.N) : (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ win0_6.index t 0 = 0 ∧ win0_6.index t 1 = 0 := by
  rw [fin_N0 t]
  decide +kernel

/-! Every window's block is its whole array. -/

theorem read0 (X : Vec Ideal S32x5120 .f32) (t : Fin cfg0.N) : (((cfg0.win 0).blk t).view.read (Elt Ideal) X : Vec Ideal S32x5120 .f32) = X := by
  funext j; blk_ext [idx t]
theorem read1 (X : Vec Ideal S32x5120 .f32) (t : Fin cfg0.N) : (((cfg0.win 1).blk t).view.read (Elt Ideal) X : Vec Ideal S32x5120 .f32) = X := by
  funext j; blk_ext [idx t]
theorem read2 (X : Vec Ideal S32x5120 .f32) (t : Fin cfg0.N) : (((cfg0.win 2).blk t).view.read (Elt Ideal) X : Vec Ideal S32x5120 .f32) = X := by
  funext j; blk_ext [idx t]
theorem read3 (X : Vec Ideal S32x5120 .f32) (t : Fin cfg0.N) : (((cfg0.win 3).blk t).view.read (Elt Ideal) X : Vec Ideal S32x5120 .f32) = X := by
  funext j; blk_ext [idx t]
theorem read4 (X : Vec Ideal S32x5120 .f32) (t : Fin cfg0.N) : (((cfg0.win 4).blk t).view.read (Elt Ideal) X : Vec Ideal S32x5120 .f32) = X := by
  funext j; blk_ext [idx t]
theorem read5 (X : Vec Ideal S32x5120 .f32) (t : Fin cfg0.N) : (((cfg0.win 5).blk t).view.read (Elt Ideal) X : Vec Ideal S32x5120 .f32) = X := by
  funext j; blk_ext [idx t]

/-- The inputs that the kernel's body finds. -/
theorem result_eq (c : Dev nD) (t : Fin cfg0.N) : result m c t = keepOf (padded (bx1 (sortedAt m c))) (padded (by1 (sortedAt m c)))
    (padded (bx2 (sortedAt m c))) (padded (by2 (sortedAt m c))) (padded (areas (sortedAt m c))) (padded (scoreAt m c)) := by
  obtain ⟨_, _, h1, h2, h3, h4, h5, h6⟩ := V_reads m c
  have e0 : iblk m c 0 t = padded (bx1 (sortedAt m c)) := (read0 (V m c main_v27) t).trans h1
  have e1 : iblk m c 1 t = padded (by1 (sortedAt m c)) := (read1 (V m c main_v28) t).trans h2
  have e2 : iblk m c 2 t = padded (bx2 (sortedAt m c)) := (read2 (V m c main_v29) t).trans h3
  have e3 : iblk m c 3 t = padded (by2 (sortedAt m c)) := (read3 (V m c main_v30) t).trans h4
  have e4 : iblk m c 4 t = padded (areas (sortedAt m c)) := (read4 (V m c main_v31) t).trans h5
  have e5 : iblk m c 5 t = padded (scoreAt m c) := (read5 (V m c main_v32) t).trans h6
  unfold result
  rw [e0, e1, e2, e3, e4, e5]

/-- The result array after the kernel. -/
theorem final (c : Dev nD) : (dats m 0 c).arrAt 6 (cfgs 0).N = keepOf (padded (bx1 (sortedAt m c))) (padded (by1 (sortedAt m c)))
    (padded (bx2 (sortedAt m c))) (padded (by2 (sortedAt m c))) (padded (areas (sortedAt m c))) (padded (scoreAt m c)) := by
  refine (dats m 0 c).arrAt_eq_of_after_last 6 t0_0 (by decide +kernel) _ fun j => ?_
  blk_simp
  rw [after_out, result_eq]
  blk_ext [idx t0_0]

/-- The kernel's result after the whole program. -/
theorem out (c : Dev nD) : Pipeline.afterTail₀ cfgs (dats m) 0 (V0 m) [hostOps1, hostOps1_1, hostOps1_2, hostOps1_3, hostOps1_4] c main_v40
    = shapeCast S8x4x5000 (back (keepOf (F := Ideal) (padded (bx1 (sortedAt m c))) (padded (by1 (sortedAt m c)))
      (padded (bx2 (sortedAt m c))) (padded (by2 (sortedAt m c))) (padded (areas (sortedAt m c))) (padded (scoreAt m c))) (scoreAt m c) (orderAt m c)) shapeCasts_S32x5000_S8x4x5000 := by
  unfold Pipeline.afterTail₀
  simp only [List.flatten_cons, List.flatten_nil, List.append_nil, StableHlo.after_append]
  rw [Host.post_reads]
  have h33 : Pipeline.withArrays spec0 c (V0 m c) (fun w => (dats m 0 c).arrAt w (cfgs 0).N) (Proc.devRef .tc main_v33) = (dats m 0 c).arrAt 6 (cfgs 0).N :=
    Pipeline.withArrays_arr spec0 launch0.win.arr_inj c (V0 m c) (fun w => (dats m 0 c).arrAt w (cfgs 0).N) 6
  have h6 : Pipeline.withArrays spec0 c (V0 m c) (fun w => (dats m 0 c).arrAt w (cfgs 0).N) (Proc.devRef .tc main_v6) = scoreAt m c :=
    (Pipeline.withArrays_of_ne _ c (V0 m c) _ main_v6 (by exact (by decide : ∀ w, Pipeline.arrRef spec0 w ≠ main_v6))).trans (V_reads m c).2.1
  have h5 : Pipeline.withArrays spec0 c (V0 m c) (fun w => (dats m 0 c).arrAt w (cfgs 0).N) (Proc.devRef .tc main_v5) = orderAt m c :=
    (Pipeline.withArrays_of_ne _ c (V0 m c) _ main_v5 (by exact (by decide : ∀ w, Pipeline.arrRef spec0 w ≠ main_v5))).trans (V_reads m c).1
  rw [final] at h33
  exact congrArg (fun x => shapeCast S8x4x5000 x shapeCasts_S32x5000_S8x4x5000) (congr (congr (congrArg back h33) h6) h5)

end Cert.Proof.KernelIdeal

namespace Cert.Proof.ReferenceIdeal

open Cert.ReferenceIdeal Cert.ReferenceIdeal.Gen Cert.ReferenceIdeal.Value
open Idealize.ShloMosaic Idealize.ShloMosaic.TcCoe Idealize.ShloMosaic.StableHlo
open Cert.Proof.Host (bx1 by1 bx2 by2)

variable (m : (ℓ : Loc nD τ sig) → Buf (Elt Ideal) ℓ)

/-- The keep bits after the loop. -/
theorem keep_at (c : Dev nD) (p : Fin 32) (j : Fin 5000) : (atK m 5000 c (Proc.devRef .tc main_v27_9) : IVec S32x5000 1) (ix2 p j)
    = bit (Nms.Kept (Hit (bx1 (sortedAt m c)) (by1 (sortedAt m c)) (bx2 (sortedAt m c)) (by2 (sortedAt m c)) (areas (sortedAt m c)) (scoreAt m c) p) 5000 j.val) := by
  obtain ⟨_, _, h0, h1, h2, h3, h4, h5, h6, h8, h9⟩ := entry_reads m c
  have ht := (trips_at (entryContents preI m c) h8 (fun p j => by rw [h6]; rfl) (fun p j => by rw [h9]) 5000 le_rfl).2.2 p j
  rw [h0, h1, h2, h3, h4, h5] at ht
  rw [atK_agree m c 5000 main_v27_9 (by decide)]
  exact ht

/-- The reference's result after the whole program. -/
theorem out (c : Dev nD) : finalContents condOps preI bodyI postI 5000 m c (Proc.devRef .tc main_v45)
    = shapeCast S8x4x5000 (back (atK m 5000 c (Proc.devRef .tc main_v27_9)) (scoreAt m c) (orderAt m c)) shapeCasts_S32x5000_S8x4x5000 := by
  rw [finalContents, post_reads, cond_keeps _ main_v27_9 (by decide),
    after_of_writes_sub condOps _ condOps_writes (by decide +kernel : main_v6 ∉ condOps_W),
    after_of_writes_sub condOps _ condOps_writes (by decide +kernel : main_v5 ∉ condOps_W),
    show atTrip condOps bodyI (entryContents preI m) 5000 c (Proc.devRef .tc main_v6) = scoreAt m c from
      (atK_keeps m main_v6 (by decide +kernel) c 5000).trans (entry_reads m c).2.1,
    show atTrip condOps bodyI (entryContents preI m) 5000 c (Proc.devRef .tc main_v5) = orderAt m c from
      (atK_keeps m main_v5 (by decide +kernel) c 5000).trans (entry_reads m c).1]

end Cert.Proof.ReferenceIdeal

namespace Cert.Proof

open Idealize.ShloMosaic Idealize.ShloMosaic.TcCoe Idealize.SL.Sem

/-- The idealized kernel and the reference end with the same result from the same arguments. -/
theorem algebraic : algebraic_KernelIdeal_ReferenceIdeal (hKernelIdeal := Cert.KernelIdeal.Gen.facts) (hReferenceIdeal := Cert.ReferenceIdeal.Gen.facts) := by
  intro m g m' g' _ hm
  refine ⟨fun c => Pipeline.afterTail₀ Cert.KernelIdeal.cfgs (KernelIdeal.dats m) 0 (Cert.KernelIdeal.Gen.V0 m)
    [Cert.KernelIdeal.Gen.hostOps1, Cert.KernelIdeal.Gen.hostOps1_1, Cert.KernelIdeal.Gen.hostOps1_2, Cert.KernelIdeal.Gen.hostOps1_3,
      Cert.KernelIdeal.Gen.hostOps1_4] c Cert.KernelIdeal.main_v40, ?_, ?_⟩
  · exact (θ_run _ _ _).mono (fun r h c => ⟨(h.1 c).2 Cert.KernelIdeal.main_v40 (Pipeline.mem_restRefs_of Cert.KernelIdeal.main_v40 (by decide) (by decide)), h.2.1 c⟩)
      (θ_run_and (KernelIdeal.run m g) (KernelIdeal.frame m g))
  refine (θ_run _ _ _).mono (fun r h c => ⟨(h.1 c Cert.ReferenceIdeal.main_v45 (by decide)).trans ?_, h.2.1 c⟩)
    (θ_run_and (Cert.ReferenceIdeal.Value.run_fold m' g') (ReferenceIdeal.frame m' g'))
  rw [ReferenceIdeal.out m' c]
  refine Eq.trans ?_ (KernelIdeal.out m c).symm
  have e0 : ReferenceIdeal.sortedAt m' c = Host.sortedAt m c := by
    show Host.sorted _ _ = Host.sorted _ _
    rw [(hm c).1, (hm c).2]
  have e1 : ReferenceIdeal.orderAt m' c = Host.orderAt m c := congrArg Host.order (hm c).2
  have e2 : ReferenceIdeal.scoreAt m' c = Host.scoreAt m c := by
    show Host.take (Host.score _) (Host.order _) = Host.take (Host.score _) (Host.order _)
    rw [(hm c).2]
  have hk := ReferenceIdeal.keep_at m' c
  rw [e0, e2] at hk
  rw [e1, e2]
  exact congrArg (fun x => shapeCast Cert.KernelIdeal.S8x4x5000 x Cert.KernelIdeal.Gen.shapeCasts_S32x5000_S8x4x5000)
    (Same.back_eq (Host.sortedAt m c) (Host.scoreAt m c) (Host.orderAt m c) _ (Host.sort_perm _ _) _ hk).symm

end Cert.Proof

end
-- ==== Proof.lean ====
module

public import proofs.«01_k».proof.Defs
public import proofs.«01_k».proof.Proof.Run
public import proofs.«01_k».proof.Proof.RunBits
public import proofs.«01_k».proof.Proof.Ref
public import proofs.«01_k».proof.Proof.Value

@[expose] public section

noncomputable section

namespace Cert.Proof

open Idealize.ShloMosaic Idealize.SL.Sem

/-- The kernel is its idealization up to the two named constants. -/
theorem preserves : Cert.preserves_Kernel_KernelIdeal :=
  ⟨IdealRules.named_const.statement Cert.KernelIdeal.κ "folded_thr" .f32 0x3E9EE584#32 ((7549747 / 24326963 : ℝ) : EReal) rfl,
    IdealRules.named_const.statement Cert.KernelIdeal.κ "big" .f32 0x7149F2CA#32 ⊤ rfl⟩

theorem claim : Cert.Claim := ⟨Cert.Kernel.Gen.facts, Cert.KernelIdeal.Gen.facts, Cert.ReferenceIdeal.Gen.facts,
  fun m ρ _ => Kernel.frame m ρ, fun m ρ _ => KernelIdeal.frame m ρ, fun m ρ _ => ReferenceIdeal.frame m ρ, preserves, algebraic⟩

end Cert.Proof

end
